-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4x16384 : Shape := ⟨3, ![8, 4, 16384]⟩
abbrev S8x4x8x128 : Shape := ⟨4, ![8, 4, 8, 128]⟩
abbrev S8x8192x8x128 : Shape := ⟨4, ![8, 8192, 8, 128]⟩
abbrev S8x8192x8 : Shape := ⟨3, ![8, 8192, 8]⟩
abbrev S8x4x8x16x128 : Shape := ⟨5, ![8, 4, 8, 16, 128]⟩
abbrev S8x8x4x16x128 : Shape := ⟨5, ![8, 8, 4, 16, 128]⟩
abbrev S8x512x128 : Shape := ⟨3, ![8, 512, 128]⟩
abbrev S8x8x8192 : Shape := ⟨3, ![8, 8, 8192]⟩
abbrev S8x32x128 : Shape := ⟨3, ![8, 32, 128]⟩
abbrev S8x32x1 : Shape := ⟨3, ![8, 32, 1]⟩
abbrev S1x512x128 : Shape := ⟨3, ![1, 512, 128]⟩
abbrev S1x32x128 : Shape := ⟨3, ![1, 32, 128]⟩
abbrev S1x1024x8x128 : Shape := ⟨4, ![1, 1024, 8, 128]⟩
abbrev S1x8x1024 : Shape := ⟨3, ![1, 8, 1024]⟩
abbrev S1x32x1 : Shape := ⟨3, ![1, 32, 1]⟩
abbrev S512x8192 : Shape := ⟨2, ![512, 8192]⟩
abbrev S512x512 : Shape := ⟨2, ![512, 512]⟩
abbrev S512x128 : Shape := ⟨2, ![512, 128]⟩
abbrev S128x512 : Shape := ⟨2, ![128, 512]⟩
abbrev S32x128 : Shape := ⟨2, ![32, 128]⟩
abbrev S32 : Shape := ⟨1, ![32]⟩
abbrev S32x1 : Shape := ⟨2, ![32, 1]⟩
abbrev S96x128 : Shape := ⟨2, ![96, 128]⟩
abbrev S128x128 : Shape := ⟨2, ![128, 128]⟩
abbrev S1024x8x128 : Shape := ⟨3, ![1024, 8, 128]⟩
abbrev S8192x128 : Shape := ⟨2, ![8192, 128]⟩
abbrev S2048x128 : Shape := ⟨2, ![2048, 128]⟩
abbrev S1024x2x128 : Shape := ⟨3, ![1024, 2, 128]⟩
abbrev S1024x1x128 : Shape := ⟨3, ![1024, 1, 128]⟩
abbrev S1024x128 : Shape := ⟨2, ![1024, 128]⟩
abbrev S1x4x1024 : Shape := ⟨3, ![1, 4, 1024]⟩
abbrev S4x1024 : Shape := ⟨2, ![4, 1024]⟩
abbrev S128x1024 : Shape := ⟨2, ![128, 1024]⟩
abbrev S512x1024 : Shape := ⟨2, ![512, 1024]⟩
abbrev S16x1024 : Shape := ⟨2, ![16, 1024]⟩
abbrev S32x16x1024 : Shape := ⟨3, ![32, 16, 1024]⟩
abbrev S1x16x1024 : Shape := ⟨3, ![1, 16, 1024]⟩
abbrev S256x512 : Shape := ⟨2, ![256, 512]⟩
abbrev S256x1024 : Shape := ⟨2, ![256, 1024]⟩
abbrev S256x128 : Shape := ⟨2, ![256, 128]⟩
abbrev S512 : Shape := ⟨1, ![512]⟩
abbrev S512x1 : Shape := ⟨2, ![512, 1]⟩
abbrev S8x4x8 : Shape := ⟨3, ![8, 4, 8]⟩

abbrev nBuf : Space → Nat
  | .hbm => 26
  | .vmem => 31
  | .smem => 0
  | _ => 0

abbrev bufTy : (tb : Table) → Fin (tcTables nBuf tb) → BufTy
  | .hbm, ⟨0, _⟩ => ⟨S8x4x16384, .bf16⟩
  | .hbm, ⟨1, _⟩ => ⟨S8x4x8x128, .bf16⟩
  | .hbm, ⟨2, _⟩ => ⟨S8x4x8x128, .bf16⟩
  | .hbm, ⟨3, _⟩ => ⟨S8x8192x8x128, .i8⟩
  | .hbm, ⟨4, _⟩ => ⟨S8x8192x8, .f32⟩
  | .hbm, ⟨5, _⟩ => ⟨S8x8192x8x128, .i8⟩
  | .hbm, ⟨6, _⟩ => ⟨S8x8192x8, .f32⟩
  | .hbm, ⟨7, _⟩ => ⟨S8x4x8x16x128, .bf16⟩
  | .hbm, ⟨8, _⟩ => ⟨S8x8x4x16x128, .bf16⟩
  | .hbm, ⟨9, _⟩ => ⟨S8x512x128, .bf16⟩
  | .hbm, ⟨10, _⟩ => ⟨S8x8x8192, .f32⟩
  | .hbm, ⟨11, _⟩ => ⟨S8x8x8192, .f32⟩
  | .hbm, ⟨12, _⟩ => ⟨S8x32x128, .bf16⟩
  | .hbm, ⟨13, _⟩ => ⟨S8x32x128, .bf16⟩
  | .hbm, ⟨14, _⟩ => ⟨S8x512x128, .bf16⟩
  | .hbm, ⟨15, _⟩ => ⟨S8x32x128, .i8⟩
  | .hbm, ⟨16, _⟩ => ⟨S8x32x1, .f32⟩
  | .hbm, ⟨17, _⟩ => ⟨S8x32x128, .i8⟩
  | .hbm, ⟨18, _⟩ => ⟨S8x32x1, .f32⟩
  | .hbm, ⟨19, _⟩ => ⟨S8x8x4x16x128, .bf16⟩
  | .hbm, ⟨20, _⟩ => ⟨S8x4x8x16x128, .bf16⟩
  | .hbm, ⟨21, _⟩ => ⟨S8x4x16384, .bf16⟩
  | .hbm, ⟨22, _⟩ => ⟨S8x4x8x128, .i8⟩
  | .hbm, ⟨23, _⟩ => ⟨S8x4x8, .f32⟩
  | .hbm, ⟨24, _⟩ => ⟨S8x4x8x128, .i8⟩
  | .hbm, ⟨25, _⟩ => ⟨S8x4x8, .f32⟩
  | .local _ .vmem, ⟨0, _⟩ => ⟨S1x512x128, .bf16⟩
  | .local _ .vmem, ⟨1, _⟩ => ⟨S1x512x128, .bf16⟩
  | .local _ .vmem, ⟨2, _⟩ => ⟨S1x32x128, .bf16⟩
  | .local _ .vmem, ⟨3, _⟩ => ⟨S1x32x128, .bf16⟩
  | .local _ .vmem, ⟨4, _⟩ => ⟨S1x32x128, .bf16⟩
  | .local _ .vmem, ⟨5, _⟩ => ⟨S1x32x128, .bf16⟩
  | .local _ .vmem, ⟨6, _⟩ => ⟨S1x1024x8x128, .i8⟩
  | .local _ .vmem, ⟨7, _⟩ => ⟨S1x1024x8x128, .i8⟩
  | .local _ .vmem, ⟨8, _⟩ => ⟨S1x8x1024, .f32⟩
  | .local _ .vmem, ⟨9, _⟩ => ⟨S1x8x1024, .f32⟩
  | .local _ .vmem, ⟨10, _⟩ => ⟨S1x1024x8x128, .i8⟩
  | .local _ .vmem, ⟨11, _⟩ => ⟨S1x1024x8x128, .i8⟩
  | .local _ .vmem, ⟨12, _⟩ => ⟨S1x8x1024, .f32⟩
  | .local _ .vmem, ⟨13, _⟩ => ⟨S1x8x1024, .f32⟩
  | .local _ .vmem, ⟨14, _⟩ => ⟨S1x512x128, .bf16⟩
  | .local _ .vmem, ⟨15, _⟩ => ⟨S1x512x128, .bf16⟩
  | .local _ .vmem, ⟨16, _⟩ => ⟨S1x32x128, .i8⟩
  | .local _ .vmem, ⟨17, _⟩ => ⟨S1x32x128, .i8⟩
  | .local _ .vmem, ⟨18, _⟩ => ⟨S1x32x1, .f32⟩
  | .local _ .vmem, ⟨19, _⟩ => ⟨S1x32x1, .f32⟩
  | .local _ .vmem, ⟨20, _⟩ => ⟨S1x32x128, .i8⟩
  | .local _ .vmem, ⟨21, _⟩ => ⟨S1x32x128, .i8⟩
  | .local _ .vmem, ⟨22, _⟩ => ⟨S1x32x1, .f32⟩
  | .local _ .vmem, ⟨23, _⟩ => ⟨S1x32x1, .f32⟩
  | .local _ .vmem, ⟨24, _⟩ => ⟨S512x8192, .f32⟩
  | .local _ .vmem, ⟨25, _⟩ => ⟨S512x512, .bf16⟩
  | .local _ .vmem, ⟨26, _⟩ => ⟨S512x128, .f32⟩
  | .local _ .vmem, ⟨27, _⟩ => ⟨S128x512, .bf16⟩
  | .local _ .vmem, ⟨28, _⟩ => ⟨S512x128, .f32⟩
  | .local _ .vmem, ⟨29, _⟩ => ⟨S512x128, .f32⟩
  | .local _ .vmem, ⟨30, _⟩ => ⟨S512x512, .f32⟩
  | _, _ => ⟨S8x4x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c8_i32 : BitVec 32 := 8#32
  let v33 : BitVec 1 := Scalar.cmpi .slt arg1 c8_i32
  let v34 : BitVec 32 := Scalar.extui v33
  let c0_i32_6 : BitVec 32 := 0#32
  let v35 : BitVec 1 := Scalar.cmpi .ne v34 c0_i32_6
  v35

def k0_off1 (i : grid0.Coords) : Fin 2 → Nat :=
  let c0_20 : Index := 0#32
  let arg1 : BitVec 32 := BitVec.ofNat 32 (i 1).val
  let c1024_i32 : BitVec 32 := 1024#32
  let v66 : BitVec 32 := Scalar.muli arg1 c1024_i32
  let v67 : Index := Scalar.indexCast v66
  ![0, v67.toNat]
def k0_off2 (i : grid0.Coords) : Fin 2 → Nat :=
  let c256_30 : Index := 256#32
  let arg1 : BitVec 32 := BitVec.ofNat 32 (i 1).val
  let c1024_i32_29 : BitVec 32 := 1024#32
  let v107 : BitVec 32 := Scalar.muli arg1 c1024_i32_29
  let v108 : Index := Scalar.indexCast v107
  ![256, v108.toNat]
def k0_cond4 (i : grid0.Coords) : BitVec 1 :=
  let arg1 : BitVec 32 := BitVec.ofNat 32 (i 1).val
  let c8_i32_9 : BitVec 32 := 8#32
  let v39 : BitVec 1 := Scalar.cmpi .sge arg1 c8_i32_9
  let v40 : BitVec 32 := Scalar.extui v39
  let c0_i32_10 : BitVec 32 := 0#32
  let v41 : BitVec 1 := Scalar.cmpi .ne v40 c0_i32_10
  v41

def k0_off3 (i : grid0.Coords) (c0_i32_23 : BitVec 32) : Fin 2 → Nat :=
  let c0_24 : Index := 0#32
  let arg1 : BitVec 32 := BitVec.ofNat 32 (i 1).val
  let c8_i32_22 : BitVec 32 := 8#32
  let v66 : BitVec 32 := Scalar.subi arg1 c8_i32_22
  let c1024_i32 : BitVec 32 := 1024#32
  let v67 : BitVec 32 := Scalar.muli v66 c1024_i32
  let v68 : BitVec 32 := Scalar.addi v67 c0_i32_23
  let v69 : Index := Scalar.indexCast v68
  ![0, v69.toNat]
def k0_off4 (i : grid0.Coords) (c0_i32_67 : BitVec 32) : Fin 2 → Nat :=
  let c256_68 : Index := 256#32
  let arg1 : BitVec 32 := BitVec.ofNat 32 (i 1).val
  let c8_i32_65 : BitVec 32 := 8#32
  let v180 : BitVec 32 := Scalar.subi arg1 c8_i32_65
  let c1024_i32_66 : BitVec 32 := 1024#32
  let v181 : BitVec 32 := Scalar.muli v180 c1024_i32_66
  let v182 : BitVec 32 := Scalar.addi v181 c0_i32_67
  let v183 : Index := Scalar.indexCast v182
  ![256, v183.toNat]
def k0_cond5 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_11 : BitVec 32 := 0#32
  let v44 : BitVec 1 := Scalar.cmpi .ne v43 c0_i32_11
  v44

def k0_cond1 (i : grid0.Coords) : BitVec 1 :=
  let arg1 : BitVec 32 := BitVec.ofNat 32 (i 1).val
  let c0_i32_4 : BitVec 32 := 0#32
  let v30 : BitVec 1 := Scalar.cmpi .eq arg1 c0_i32_4
  let v31 : BitVec 32 := Scalar.extui v30
  let c0_i32_5 : BitVec 32 := 0#32
  let v32 : BitVec 1 := Scalar.cmpi .ne v31 c0_i32_5
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x8x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x8x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S8x4x16384 : Shape := ⟨3, ![8, 4, 16384]⟩
abbrev S8x4x8x128 : Shape := ⟨4, ![8, 4, 8, 128]⟩
abbrev S8x8192x8x128 : Shape := ⟨4, ![8, 8192, 8, 128]⟩
abbrev S8x8192x8 : Shape := ⟨3, ![8, 8192, 8]⟩
abbrev S_ : Shape := ⟨0, ![]⟩
abbrev S8x4x8 : Shape := ⟨3, ![8, 4, 8]⟩
abbrev S8x4x8x1 : Shape := ⟨4, ![8, 4, 8, 1]⟩
abbrev S8x8192x8x1 : Shape := ⟨4, ![8, 8192, 8, 1]⟩
abbrev S8x8196x8x128 : Shape := ⟨4, ![8, 8196, 8, 128]⟩
abbrev S8x4x8x16x128 : Shape := ⟨5, ![8, 4, 8, 16, 128]⟩
abbrev S8x8x8196x4x16 : Shape := ⟨5, ![8, 8, 8196, 4, 16]⟩
abbrev S8x8x16x4x8196 : Shape := ⟨5, ![8, 8, 16, 4, 8196]⟩
abbrev S4x8196 : Shape := ⟨2, ![4, 8196]⟩
abbrev S8x8x16x4 : Shape := ⟨4, ![8, 8, 16, 4]⟩
abbrev S8x8x16x4x1 : Shape := ⟨5, ![8, 8, 16, 4, 1]⟩
abbrev S8x8x16x4x128 : Shape := ⟨5, ![8, 8, 16, 4, 128]⟩

abbrev nBuf : Space → Nat
  | .hbm => 125
  | .vmem => 0
  | .smem => 0
  | _ => 0

abbrev bufTy : (tb : Table) → Fin (tcTables nBuf tb) → BufTy
  | .hbm, ⟨0, _⟩ => ⟨S8x4x16384, .bf16⟩
  | .hbm, ⟨1, _⟩ => ⟨S8x4x8x128, .bf16⟩
  | .hbm, ⟨2, _⟩ => ⟨S8x4x8x128, .bf16⟩
  | .hbm, ⟨3, _⟩ => ⟨S8x8192x8x128, .i8⟩
  | .hbm, ⟨4, _⟩ => ⟨S8x8192x8, .f32⟩
  | .hbm, ⟨5, _⟩ => ⟨S8x8192x8x128, .i8⟩
  | .hbm, ⟨6, _⟩ => ⟨S8x8192x8, .f32⟩
  | .hbm, ⟨7, _⟩ => ⟨S8x4x8x128, .f32⟩
  | .hbm, ⟨8, _⟩ => ⟨S8x4x8x128, .f32⟩
  | .hbm, ⟨9, _⟩ => ⟨S_, .f32⟩
  | .hbm, ⟨10, _⟩ => ⟨S8x4x8, .f32⟩
  | .hbm, ⟨11, _⟩ => ⟨S_, .f32⟩
  | .hbm, ⟨12, _⟩ => ⟨S8x4x8, .f32⟩
  | .hbm, ⟨13, _⟩ => ⟨S8x4x8, .i1⟩
  | .hbm, ⟨14, _⟩ => ⟨S_, .f32⟩
  | .hbm, ⟨15, _⟩ => ⟨S8x4x8, .f32⟩
  | .hbm, ⟨16, _⟩ => ⟨S8x4x8, .f32⟩
  | .hbm, ⟨17, _⟩ => ⟨S_, .f32⟩
  | .hbm, ⟨18, _⟩ => ⟨S_, .f32⟩
  | .hbm, ⟨19, _⟩ => ⟨S8x4x8, .f32⟩
  | .hbm, ⟨20, _⟩ => ⟨S8x4x8, .f32⟩
  | .hbm, ⟨21, _⟩ => ⟨S8x4x8x1, .f32⟩
  | .hbm, ⟨22, _⟩ => ⟨S8x4x8x128, .f32⟩
  | .hbm, ⟨23, _⟩ => ⟨S8x4x8x128, .f32⟩
  | .hbm, ⟨24, _⟩ => ⟨S8x4x8x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4x8x128, .f32⟩
  | .hbm, ⟨29, _⟩ => ⟨S8x4x8x128, .f32⟩
  | .hbm, ⟨30, _⟩ => ⟨S_, .f32⟩
  | .hbm, ⟨31, _⟩ => ⟨S8x4x8x128, .f32⟩
  | .hbm, ⟨32, _⟩ => ⟨S8x4x8x128, .f32⟩
  | .hbm, ⟨33, _⟩ => ⟨S8x4x8x128, .i32⟩
  | .hbm, ⟨34, _⟩ => ⟨S8x4x8x128, .i8⟩
  | .hbm, ⟨35, _⟩ => ⟨S8x4x8x128, .f32⟩
  | .hbm, ⟨36, _⟩ => ⟨S8x4x8x128, .f32⟩
  | .hbm, ⟨37, _⟩ => ⟨S_, .f32⟩
  | .hbm, ⟨38, _⟩ => ⟨S8x4x8, .f32⟩
  | .hbm, ⟨39, _⟩ => ⟨S_, .f32⟩
  | .hbm, ⟨40, _⟩ => ⟨S8x4x8, .f32⟩
  | .hbm, ⟨41, _⟩ => ⟨S8x4x8, .i1⟩
  | .hbm, ⟨42, _⟩ => ⟨S_, .f32⟩
  | .hbm, ⟨43, _⟩ => ⟨S8x4x8, .f32⟩
  | .hbm, ⟨44, _⟩ => ⟨S8x4x8, .f32⟩
  | .hbm, ⟨45, _⟩ => ⟨S_, .f32⟩
  | .hbm, ⟨46, _⟩ => ⟨S_, .f32⟩
  | .hbm, ⟨47, _⟩ => ⟨S8x4x8, .f32⟩
  | .hbm, ⟨48, _⟩ => ⟨S8x4x8, .f32⟩
  | .hbm, ⟨49, _⟩ => ⟨S8x4x8x1, .f32⟩
  | .hbm, ⟨50, _⟩ => ⟨S8x4x8x128, .f32⟩
  | .hbm, ⟨51, _⟩ => ⟨S8x4x8x128, .f32⟩
  | .hbm, ⟨52, _⟩ => ⟨S8x4x8x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x4x8x128, .f32⟩
  | .hbm, ⟨57, _⟩ => ⟨S8x4x8x128, .f32⟩
  | .hbm, ⟨58, _⟩ => ⟨S_, .f32⟩
  | .hbm, ⟨59, _⟩ => ⟨S8x4x8x128, .f32⟩
  | .hbm, ⟨60, _⟩ => ⟨S8x4x8x128, .f32⟩
  | .hbm, ⟨61, _⟩ => ⟨S8x4x8x128, .i32⟩
  | .hbm, ⟨62, _⟩ => ⟨S8x4x8x128, .i8⟩
  | .hbm, ⟨63, _⟩ => ⟨S8x8192x8x128, .i32⟩
  | .hbm, ⟨64, _⟩ => ⟨S8x8192x8x128, .bf16⟩
  | .hbm, ⟨65, _⟩ => ⟨S8x8192x8, .bf16⟩
  | .hbm, ⟨66, _⟩ => ⟨S8x8192x8x1, .bf16⟩
  | .hbm, ⟨67, _⟩ => ⟨S8x8192x8x128, .bf16⟩
  | .hbm, ⟨68, _⟩ => ⟨S8x8192x8x128, .bf16⟩
  | .hbm, ⟨69, _⟩ => ⟨S8x4x8x128, .i32⟩
  | .hbm, ⟨70, _⟩ => ⟨S8x4x8x128, .bf16⟩
  | .hbm, ⟨71, _⟩ => ⟨S8x4x8, .bf16⟩
  | .hbm, ⟨72, _⟩ => ⟨S8x4x8x1, .bf16⟩
  | .hbm, ⟨73, _⟩ => ⟨S8x4x8x128, .bf16⟩
  | .hbm, ⟨74, _⟩ => ⟨S8x4x8x128, .bf16⟩
  | .hbm, ⟨75, _⟩ => ⟨S8x8196x8x128, .bf16⟩
  | .hbm, ⟨76, _⟩ => ⟨S8x8192x8x128, .i32⟩
  | .hbm, ⟨77, _⟩ => ⟨S8x8192x8x128, .bf16⟩
  | .hbm, ⟨78, _⟩ => ⟨S8x8192x8, .bf16⟩
  | .hbm, ⟨79, _⟩ => ⟨S8x8192x8x1, .bf16⟩
  | .hbm, ⟨80, _⟩ => ⟨S8x8192x8x128, .bf16⟩
  | .hbm, ⟨81, _⟩ => ⟨S8x8192x8x128, .bf16⟩
  | .hbm, ⟨82, _⟩ => ⟨S8x4x8x128, .i32⟩
  | .hbm, ⟨83, _⟩ => ⟨S8x4x8x128, .bf16⟩
  | .hbm, ⟨84, _⟩ => ⟨S8x4x8, .bf16⟩
  | .hbm, ⟨85, _⟩ => ⟨S8x4x8x1, .bf16⟩
  | .hbm, ⟨86, _⟩ => ⟨S8x4x8x128, .bf16⟩
  | .hbm, ⟨87, _⟩ => ⟨S8x4x8x128, .bf16⟩
  | .hbm, ⟨88, _⟩ => ⟨S8x8196x8x128, .bf16⟩
  | .hbm, ⟨89, _⟩ => ⟨S8x4x8x16x128, .bf16⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S8x8x8196x4x16, .f32⟩
  | .hbm, ⟨95, _⟩ => ⟨S8x8x16x4x8196, .f32⟩
  | .hbm, ⟨96, _⟩ => ⟨S8x8x16x4x8196, .f32⟩
  | .hbm, ⟨97, _⟩ => ⟨S8x8x16x4x8196, .f32⟩
  | .hbm, ⟨98, _⟩ => ⟨S4x8196, .i32⟩
  | .hbm, ⟨99, _⟩ => ⟨S4x8196, .i32⟩
  | .hbm, ⟨100, _⟩ => ⟨S_, .i32⟩
  | .hbm, ⟨101, _⟩ => ⟨S4x8196, .i32⟩
  | .hbm, ⟨102, _⟩ => ⟨S4x8196, .i32⟩
  | .hbm, ⟨103, _⟩ => ⟨S4x8196, .i1⟩
  | .hbm, ⟨104, _⟩ => ⟨S_, .f32⟩
  | .hbm, ⟨105, _⟩ => ⟨S_, .f32⟩
  | .hbm, ⟨106, _⟩ => ⟨S8x8x16x4x8196, .i1⟩
  | .hbm, ⟨107, _⟩ => ⟨S8x8x16x4x8196, .f32⟩
  | .hbm, ⟨108, _⟩ => ⟨S8x8x16x4x8196, .f32⟩
  | .hbm, ⟨109, _⟩ => ⟨S_, .f32⟩
  | .hbm, ⟨110, _⟩ => ⟨S8x8x16x4, .f32⟩
  | .hbm, ⟨111, _⟩ => ⟨S8x8x16x4x1, .f32⟩
  | .hbm, ⟨112, _⟩ => ⟨S8x8x16x4x8196, .f32⟩
  | .hbm, ⟨113, _⟩ => ⟨S8x8x16x4x8196, .f32⟩
  | .hbm, ⟨114, _⟩ => ⟨S8x8x16x4x8196, .f32⟩
  | .hbm, ⟨115, _⟩ => ⟨S8x8196x8x128, .f32⟩
  | .hbm, ⟨116, _⟩ => ⟨S8x8x16x4x128, .f32⟩
  | .hbm, ⟨117, _⟩ => ⟨S_, .f32⟩
  | .hbm, ⟨118, _⟩ => ⟨S8x8x16x4, .f32⟩
  | .hbm, ⟨119, _⟩ => ⟨S8x8x16x4x1, .f32⟩
  | .hbm, ⟨120, _⟩ => ⟨S8x8x16x4x128, .f32⟩
  | .hbm, ⟨121, _⟩ => ⟨S8x8x16x4x128, .f32⟩
  | .hbm, ⟨122, _⟩ => ⟨S8x4x8x16x128, .f32⟩
  | .hbm, ⟨123, _⟩ => ⟨S8x4x16384, .f32⟩
  | .hbm, ⟨124, _⟩ => ⟨S8x4x16384, .bf16⟩
  | _, _ => ⟨S8x4x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_cst_10 : Ref sig .tc := ⟨.hbm, 54, rfl⟩
abbrev main_call5_v0 : Ref sig .tc := ⟨.hbm, 55, rfl⟩
abbrev main_call5_v1 : Ref sig .tc := ⟨.hbm, 56, rfl⟩
abbrev main_call5_v2 : Ref sig .tc := ⟨.hbm, 57, rfl⟩
abbrev main_call5_v3 : Ref sig .tc := ⟨.hbm, 58, rfl⟩
abbrev main_call5_v4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_13 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_15 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]
-- ==== Proof.KernelBase.lean ====
/-
  What the proofs about `Kernel`'s body share: when each of its conditionals is taken, as arithmetic of the grid point, and
  the buffers that the body is handed at a point.
-/
module

public import proofs.«01_k».proof.Proof.Gen.Kernel.Frame
public import proofs.«01_k».proof.Proof.Gen.Kernel.Skeleton
public import proofs.«01_k».proof.Proof.Gen.Kernel.Points

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's `scf.if` 0 , from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 7 — decided over the grid. -/
theorem hcond0_1 : ∀ t : Fin cfg0.N, cond0_1 (grid0.coords t) ↔ t.val % 16 ≤ 7 :=
  (by decide +kernel : ∀ t : Fin grid0.N, cond0_1 (grid0.coords t) ↔ t.val % 16 ≤ 7)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 8#32)) 0#32) = 1#1
/-- It holds at the points ≡ 8 (mod 16) — by arithmetic of the point. -/
theorem hcond0_2 : ∀ t : Fin cfg0.N, cond0_2 (grid0.coords t) ↔ t.val % 16 = 8 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_2, e0, e1]
    word_cmp
   : ∀ t : Fin grid0.N, cond0_2 (grid0.coords t) ↔ t.val % 16 = 8)

/-- The condition of the body's `scf.if` 3 (`k0_h4`), from the grid coordinates (the skeleton's scalar
    chain substituted). -/
abbrev cond0_3 (i : grid0.Coords) : Prop := k0_cond4 i = 1#1
/-- It holds at the points whose coordinates have 8 ≤ i1 — decided over the grid. -/
theorem hcond0_3 : ∀ t : Fin cfg0.N, cond0_3 (grid0.coords t) ↔ 8 ≤ t.val % 16 :=
  (by decide +kernel : ∀ t : Fin grid0.N, cond0_3 (grid0.coords t) ↔ 8 ≤ t.val % 16)

/-- The condition of the body's `scf.if` 4 (`k0_h5`), from the grid coordinates (the skeleton's scalar
    chain substituted). -/
abbrev cond0_4 (i : grid0.Coords) : Prop := k0_cond5 i = 1#1
/-- It holds at the points ≡ 15 (mod 16) — by arithmetic of the point. -/
theorem hcond0_4 : ∀ t : Fin cfg0.N, cond0_4 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_4, k0_cond5, e0, e1]
    word_cmp
   : ∀ t : Fin grid0.N, cond0_4 (grid0.coords t) ↔ t.val % 16 = 15)

/-- Each window's current staging memref at point `t`, spelled as the pipeline passes it (`bodyAt0`), and its wholeness. -/
abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x8x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x8x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x8192 .f32 := Memref.whole cc0_scratch0
abbrev scM0_1 : Memref sig .tc .vmem S512x512 .bf16 := Memref.whole cc0_scratch1
abbrev scM0_2 : Memref sig .tc .vmem S512x128 .f32 := Memref.whole cc0_scratch2
abbrev scM0_3 : Memref sig .tc .vmem S128x512 .bf16 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x512 .f32 := Memref.whole cc0_scratch6

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- A buffer that ends at some contents is owned at what those read as. -/
theorem owns_any (c : Dev nD) {sp : Space} {sh : Shape} {e : EltTy} (a : Memref sig .tc sp sh e)
    (f : Buf (Elt F) (a.view.loc (c : Thread nD τ))) :
    (a.view.loc (c : Thread nD τ) ↦[a.view.set]{fullShare} f : sProp 𝕄)
      ⊢ iprop(∃ X, ∃ g, ⌜a.view.read (Elt F) g = X⌝ ∗ (a.view.loc (c : Thread nD τ) ↦[a.view.set]{fullShare} g)) := by
  iintro H
  iexists _; iexists f; isplitr
  swap; · iexact H
  ipureintro; rfl

end Cert.Kernel.Own

end
-- ==== Proof.KernelRunA.lean ====
/-
  The body of `Kernel` run as a whole in case A of its conditionals: from the inputs' blocks and anything in the other
  buffers, it ends with the inputs' blocks and something in the others.
-/
module

public import proofs.«01_k».proof.Proof.KernelBase

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The run in case A. -/
theorem run_A (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : cond0_0 i) (hc1 : cond0_1 i) (hc2 : ¬cond0_2 i) (hc3 : ¬cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part1_eq_skeleton, k0_part2_eq_skeleton, k0_part3_eq_skeleton, k0_part4_eq_skeleton, k0_part5_eq_skeleton, k0_part6_eq_skeleton, k0_part8_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.Kernel.Own

end
-- ==== Proof.KernelRunB.lean ====
/-
  The body of `Kernel` run as a whole in case B of its conditionals: from the inputs' blocks and anything in the other
  buffers, it ends with the inputs' blocks and something in the others.
-/
module

public import proofs.«01_k».proof.Proof.KernelRunA

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The run in case B. -/
theorem run_B (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : cond0_1 i) (hc2 : ¬cond0_2 i) (hc3 : ¬cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part8_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.Kernel.Own

end
-- ==== Proof.KernelRunC.lean ====
/-
  The body of `Kernel` run as a whole in case C of its conditionals: from the inputs' blocks and anything in the other
  buffers, it ends with the inputs' blocks and something in the others.
-/
module

public import proofs.«01_k».proof.Proof.KernelRunB

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The run in case C. -/
theorem run_C (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : cond0_2 i) (hc3 : cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.Kernel.Own

end
-- ==== Proof.KernelRunD.lean ====
/-
  The body of `Kernel` run as a whole in case D of its conditionals: from the inputs' blocks and anything in the other
  buffers, it ends with the inputs' blocks and something in the others.
-/
module

public import proofs.«01_k».proof.Proof.KernelRunC

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The run in case D. -/
theorem run_D (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.Kernel.Own

end
-- ==== Proof.KernelRunE.lean ====
/-
  The body of `Kernel` run as a whole in case E of its conditionals: from the inputs' blocks and anything in the other
  buffers, it ends with the inputs' blocks and something in the others.
-/
module

public import proofs.«01_k».proof.Proof.KernelRunD

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in
/-- The run in case E. -/
theorem run_E (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.Kernel.Own

end
-- ==== Proof.KernelFrame.lean ====
/-
  `Kernel` runs, faults nowhere, leaves its arguments as they were and every semaphore at zero. Nothing is said here of what
  the outputs hold: the pipeline's proof data forgets the five output windows, and its invariant owns the scratch at any contents.
-/
module

public import proofs.«01_k».proof.Proof.KernelRunE
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents this module says nothing of: the five outputs. -/
def fgt : Fin cfg0.W → Bool
  | ⟨0, _⟩ => false | ⟨1, _⟩ => false | ⟨2, _⟩ => false | ⟨3, _⟩ => false | ⟨4, _⟩ => false | ⟨5, _⟩ => false | ⟨6, _⟩ => false
  | ⟨7, _⟩ => true | ⟨8, _⟩ => true | ⟨9, _⟩ => true | ⟨10, _⟩ => true | ⟨11, _⟩ => true

/-- The proof data: the arrays as the region finds them, each input's buffer at its block after every point. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (7 : Fin cfg0.W) t
    | ⟨8, _⟩ => Pipeline.Dat.unnamed (8 : Fin cfg0.W) t
    | ⟨9, _⟩ => Pipeline.Dat.unnamed (9 : Fin cfg0.W) t
    | ⟨10, _⟩ => Pipeline.Dat.unnamed (10 : Fin cfg0.W) t
    | ⟨11, _⟩ => Pipeline.Dat.unnamed (11 : Fin cfg0.W) t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d

set_option maxHeartbeats 1600000 in
/-- The body at any point: the point's case says which run applies. -/
theorem fsound_body (c : Dev nD) (t : Fin cfg0.N) :
    iprop((fdats m 0 c).Φ t.castSucc ∗ (fdats m 0 c).owesAt () t.castSucc ∗ (∃ d, owns (c : Thread nD τ) (ms0_0 t) fullShare ((fdats m 0 c).before 0 t d)) ∗ (∃ d, owns (c : Thread nD τ) (ms0_1 t) fullShare ((fdats m 0 c).before 1 t d)) ∗ (∃ d, owns (c : Thread nD τ) (ms0_2 t) fullShare ((fdats m 0 c).before 2 t d)) ∗ (∃ d, owns (c : Thread nD τ) (ms0_3 t) fullShare ((fdats m 0 c).before 3 t d)) ∗ (∃ d, owns (c : Thread nD τ) (ms0_4 t) fullShare ((fdats m 0 c).before 4 t d)) ∗ (∃ d, owns (c : Thread nD τ) (ms0_5 t) fullShare ((fdats m 0 c).before 5 t d)) ∗ (∃ d, owns (c : Thread nD τ) (ms0_6 t) fullShare ((fdats m 0 c).before 6 t d)) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X))
      ⊢ wp frame (wpE (defs₀ (F := F)) Variants.none c none) Set.univ (bodyAt0 t) (fun _ =>
        iprop((fdats m 0 c).Φ t.succ ∗ (fdats m 0 c).owesAt () t.succ ∗ owns (c : Thread nD τ) (ms0_0 t) fullShare ((fdats m 0 c).after 0 t) ∗ owns (c : Thread nD τ) (ms0_1 t) fullShare ((fdats m 0 c).after 1 t) ∗ owns (c : Thread nD τ) (ms0_2 t) fullShare ((fdats m 0 c).after 2 t) ∗ owns (c : Thread nD τ) (ms0_3 t) fullShare ((fdats m 0 c).after 3 t) ∗ owns (c : Thread nD τ) (ms0_4 t) fullShare ((fdats m 0 c).after 4 t) ∗ owns (c : Thread nD τ) (ms0_5 t) fullShare ((fdats m 0 c).after 5 t) ∗ owns (c : Thread nD τ) (ms0_6 t) fullShare ((fdats m 0 c).after 6 t) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X))) := by
  unfold bodyAt0
  simp only [fbefore_0, fafter_0, fbefore_1, fafter_1, fbefore_2, fafter_2, fbefore_3, fafter_3, fbefore_4, fafter_4, fbefore_5, fafter_5, fbefore_6, fafter_6]
  rw [show (fdats m 0 c).owesAt () t.succ = (fdats m 0 c).owesAt () t.castSucc from rfl]
  rw [show (fdats m 0 c).Φ t.succ = Pipeline.ΦA spec0 c from rfl, show (fdats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  have hN : t.val < 128 := lt_of_lt_of_eq t.isLt (show cfg0.N = 128 from N_0)
  rcases (show (t.val % 16 = 0 ∧ t.val % 16 ≤ 7 ∧ ¬t.val % 16 = 8 ∧ ¬8 ≤ t.val % 16 ∧ ¬t.val % 16 = 15)
      ∨ (¬t.val % 16 = 0 ∧ t.val % 16 ≤ 7 ∧ ¬t.val % 16 = 8 ∧ ¬8 ≤ t.val % 16 ∧ ¬t.val % 16 = 15)
      ∨ (¬t.val % 16 = 0 ∧ ¬t.val % 16 ≤ 7 ∧ t.val % 16 = 8 ∧ 8 ≤ t.val % 16 ∧ ¬t.val % 16 = 15)
      ∨ (¬t.val % 16 = 0 ∧ ¬t.val % 16 ≤ 7 ∧ ¬t.val % 16 = 8 ∧ 8 ≤ t.val % 16 ∧ ¬t.val % 16 = 15)
      ∨ (¬t.val % 16 = 0 ∧ ¬t.val % 16 ≤ 7 ∧ ¬t.val % 16 = 8 ∧ 8 ≤ t.val % 16 ∧ t.val % 16 = 15) by omega) with
    ⟨h0, h1, h2, h3, h4⟩ | ⟨h0, h1, h2, h3, h4⟩ | ⟨h0, h1, h2, h3, h4⟩ | ⟨h0, h1, h2, h3, h4⟩ | ⟨h0, h1, h2, h3, h4⟩
  · iapply (run_A c (grid0.coords t) _ _ _ _ _ _ _ _ _ _ _ _ _ _ _ _ _ _ _ _ _ _ _ _ _ _ _ _ _ _ _ _ _ _ _ _ _ _  ((hcond0_0 t).mpr h0) ((hcond0_1 t).mpr h1) (fun h => h2 ((hcond0_2 t).mp h)) (fun h => h3 ((hcond0_3 t).mp h)) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_B c (grid0.coords t) _ _ _ _ _ _ _ _ _ _ _ _ _ _ _ _ _ _ _ _ _ _ _ _ _ _ _ _ _ _ _ _ _ _ _ _ _ _  (fun h => h0 ((hcond0_0 t).mp h)) ((hcond0_1 t).mpr h1) (fun h => h2 ((hcond0_2 t).mp h)) (fun h => h3 ((hcond0_3 t).mp h)) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_C c (grid0.coords t) _ _ _ _ _ _ _ _ _ _ _ _ _ _ _ _ _ _ _ _ _ _ _ _ _ _ _ _ _ _ _ _ _ _ _ _ _ _  (fun h => h0 ((hcond0_0 t).mp h)) (fun h => h1 ((hcond0_1 t).mp h)) ((hcond0_2 t).mpr h2) ((hcond0_3 t).mpr h3) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_D c (grid0.coords t) _ _ _ _ _ _ _ _ _ _ _ _ _ _ _ _ _ _ _ _ _ _ _ _ _ _ _ _ _ _ _ _ _ _ _ _ _ _  (fun h => h0 ((hcond0_0 t).mp h)) (fun h => h1 ((hcond0_1 t).mp h)) (fun h => h2 ((hcond0_2 t).mp h)) ((hcond0_3 t).mpr h3) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_E c (grid0.coords t) _ _ _ _ _ _ _ _ _ _ _ _ _ _ _ _ _ _ _ _ _ _ _ _ _ _ _ _ _ _ _ _ _ _ _ _ _ _  (fun h => h0 ((hcond0_0 t).mp h)) (fun h => h1 ((hcond0_1 t).mp h)) (fun h => h2 ((hcond0_2 t).mp h)) ((hcond0_3 t).mpr h3) ((hcond0_4 t).mpr h4) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem fdefs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem fbody_obligation (c : Dev nD) :
    BodyObligation (fdats (F := F) m 0 c) (defs₀ (F := F)) Variants.none () Set.univ fgt := fun t => by
  rw [bigSep_W0, bigSep_W0, fdefs₀_row]
  exact triple_restated (fsound_body m c t) rfl .rfl fun _ => .rfl

/-- The buffers that the host operations after the region write. -/
def tailWrites : Finset (Ref sig .tc) := {main_v8, main_v9, main_v10, main_v11, main_v12, main_v13, main_v14}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl
  all_goals
    simp only [StableHlo.unary_writes, StableHlo.reshape_writes, Finset.mem_singleton] at hb
    have hb' := Proc.devRef_injective _ hb
    subst hb'
    decide

set_option backward.isDefEq.respectTransparency.types false in
set_option maxHeartbeats 800000 in
/-- The run: the arrays, the outputs' left open, and every other unscoped buffer that no host line writes as it was. -/
theorem frun : θ_run defs (onTc (τ := τ) (main (F := F))) (s₀ m ρ)
    (fun r => (Pipeline.RDat.FramePostR cfg0 (fun c => (fdats m 0 c).toRForget fgt) tailWrites (fun c b => V0 m c (Proc.devRef .tc b)) r)
      ∧ r.2.sem = fun _ => 0) :=
  Pipeline.θ_run_frame_around_T_forget (Q' := _) cfgs (fdats m) (0 : Fin 1) launch0 defs₀ Variants.none fgt tailWrites m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    have rest := fun (b : Ref sig .tc) (h1 : b ∈ Pipeline.restRefs sig cfg0.spec) (h2 : b ∉ tailWrites) => (h.1 c).2 b (Finset.mem_sdiff.mpr ⟨h1, h2⟩)
    ⟨(rest main_arg0 (Pipeline.mem_restRefs_of main_arg0 (by decide) (by decide)) (by decide)).trans (V_main_arg0 m c),
      (rest main_arg1 (Pipeline.mem_restRefs_of main_arg1 (by decide) (by decide)) (by decide)).trans (V_main_arg1 m c),
      (rest main_arg2 (Pipeline.mem_restRefs_of main_arg2 (by decide) (by decide)) (by decide)).trans (V_main_arg2 m c),
      (Pipeline.RDat.FramePostR.arr_in h.1 c 3 rfl).trans ((fA_eq m c 3).trans (V_main_arg3 m c)),
      (rest main_arg4 (Pipeline.mem_restRefs_of main_arg4 (by decide) (by decide)) (by decide)).trans (V_main_arg4 m c),
      (Pipeline.RDat.FramePostR.arr_in h.1 c 5 rfl).trans ((fA_eq m c 5).trans (V_main_arg5 m c)),
      (rest main_arg6 (Pipeline.mem_restRefs_of main_arg6 (by decide) (by decide)) (by decide)).trans (V_main_arg6 m c)⟩, h.2⟩) (frun m ρ)

end Cert.Kernel.Own

end
-- ==== Proof.KernelIdealBase.lean ====
/-
  What the proofs about `KernelIdeal`'s body share: when each of its conditionals is taken, as arithmetic of the grid point, and
  the buffers that the body is handed at a point.
-/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's branch conditions -/

/-- The condition of the body's `scf.if` 0 , from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 7 — decided over the grid. -/
theorem hcond0_1 : ∀ t : Fin cfg0.N, cond0_1 (grid0.coords t) ↔ t.val % 16 ≤ 7 :=
  (by decide +kernel : ∀ t : Fin grid0.N, cond0_1 (grid0.coords t) ↔ t.val % 16 ≤ 7)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 1).val) 8#32)) 0#32) = 1#1
/-- It holds at the points ≡ 8 (mod 16) — by arithmetic of the point. -/
theorem hcond0_2 : ∀ t : Fin cfg0.N, cond0_2 (grid0.coords t) ↔ t.val % 16 = 8 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_2, e0, e1]
    word_cmp
   : ∀ t : Fin grid0.N, cond0_2 (grid0.coords t) ↔ t.val % 16 = 8)

/-- The condition of the body's `scf.if` 3 (`k0_h4`), from the grid coordinates (the skeleton's scalar
    chain substituted). -/
abbrev cond0_3 (i : grid0.Coords) : Prop := k0_cond4 i = 1#1
/-- It holds at the points whose coordinates have 8 ≤ i1 — decided over the grid. -/
theorem hcond0_3 : ∀ t : Fin cfg0.N, cond0_3 (grid0.coords t) ↔ 8 ≤ t.val % 16 :=
  (by decide +kernel : ∀ t : Fin grid0.N, cond0_3 (grid0.coords t) ↔ 8 ≤ t.val % 16)

/-- The condition of the body's `scf.if` 4 (`k0_h5`), from the grid coordinates (the skeleton's scalar
    chain substituted). -/
abbrev cond0_4 (i : grid0.Coords) : Prop := k0_cond5 i = 1#1
/-- It holds at the points ≡ 15 (mod 16) — by arithmetic of the point. -/
theorem hcond0_4 : ∀ t : Fin cfg0.N, cond0_4 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_4, k0_cond5, e0, e1]
    word_cmp
   : ∀ t : Fin grid0.N, cond0_4 (grid0.coords t) ↔ t.val % 16 = 15)

/-- Each window's current staging memref at point `t`, spelled as the pipeline passes it (`bodyAt0`), and its wholeness. -/
abbrev ms0_0 (t : Fin cfg0.N) : Memref sig .tc .vmem S1x512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x8x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x8x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S512x8192 .f32 := Memref.whole cc0_scratch0
abbrev scM0_1 : Memref sig .tc .vmem S512x512 .bf16 := Memref.whole cc0_scratch1
abbrev scM0_2 : Memref sig .tc .vmem S512x128 .f32 := Memref.whole cc0_scratch2
abbrev scM0_3 : Memref sig .tc .vmem S128x512 .bf16 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S512x512 .f32 := Memref.whole cc0_scratch6

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- A buffer that ends at some contents is owned at what those read as. -/
theorem owns_any (c : Dev nD) {sp : Space} {sh : Shape} {e : EltTy} (a : Memref sig .tc sp sh e)
    (f : Buf (Elt F) (a.view.loc (c : Thread nD τ))) :
    (a.view.loc (c : Thread nD τ) ↦[a.view.set]{fullShare} f : sProp 𝕄)
      ⊢ iprop(∃ X, ∃ g, ⌜a.view.read (Elt F) g = X⌝ ∗ (a.view.loc (c : Thread nD τ) ↦[a.view.set]{fullShare} g)) := by
  iintro H
  iexists _; iexists f; isplitr
  swap; · iexact H
  ipureintro; rfl

end Cert.KernelIdeal.Own

end
-- ==== Proof.KernelIdealRunA.lean ====
/-
  The body of `KernelIdeal` run as a whole in case A of its conditionals: from the inputs' blocks and anything in the other
  buffers, it ends with the inputs' blocks and something in the others.
-/
module

public import proofs.«01_k».proof.Proof.KernelIdealBase

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case A. -/
theorem run_A (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : cond0_0 i) (hc1 : cond0_1 i) (hc2 : ¬cond0_2 i) (hc3 : ¬cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part1_eq_skeleton, k0_part2_eq_skeleton, k0_part3_eq_skeleton, k0_part4_eq_skeleton, k0_part5_eq_skeleton, k0_part6_eq_skeleton, k0_part8_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.KernelIdeal.Own

end
-- ==== Proof.KernelIdealRunB.lean ====
/-
  The body of `KernelIdeal` run as a whole in case B of its conditionals: from the inputs' blocks and anything in the other
  buffers, it ends with the inputs' blocks and something in the others.
-/
module

public import proofs.«01_k».proof.Proof.KernelIdealRunA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case B. -/
theorem run_B (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : cond0_1 i) (hc2 : ¬cond0_2 i) (hc3 : ¬cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part8_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.KernelIdeal.Own

end
-- ==== Proof.KernelIdealRunC.lean ====
/-
  The body of `KernelIdeal` run as a whole in case C of its conditionals: from the inputs' blocks and anything in the other
  buffers, it ends with the inputs' blocks and something in the others.
-/
module

public import proofs.«01_k».proof.Proof.KernelIdealRunB

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case C. -/
theorem run_C (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : cond0_2 i) (hc3 : cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.KernelIdeal.Own

end
-- ==== Proof.KernelIdealRunD.lean ====
/-
  The body of `KernelIdeal` run as a whole in case D of its conditionals: from the inputs' blocks and anything in the other
  buffers, it ends with the inputs' blocks and something in the others.
-/
module

public import proofs.«01_k».proof.Proof.KernelIdealRunC

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case D. -/
theorem run_D (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.KernelIdeal.Own

end
-- ==== Proof.KernelIdealRunE.lean ====
/-
  The body of `KernelIdeal` run as a whole in case E of its conditionals: from the inputs' blocks and anything in the other
  buffers, it ends with the inputs' blocks and something in the others.
-/
module

public import proofs.«01_k».proof.Proof.KernelIdealRunD

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case E. -/
theorem run_E (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__attention_kernel_eq_skeleton]; unfold cc0__attention_kernel_skel
  simp only [k0_part15_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iapply (owns_any c arg9 _); iexact H7
  isplitl [H8]; · iapply (owns_any c arg10 _); iexact H8
  isplitl [H9]; · iapply (owns_any c arg11 _); iexact H9
  isplitl [H10]; · iapply (owns_any c arg12 _); iexact H10
  isplitl [H11]; · iapply (owns_any c arg13 _); iexact H11
  isplitl [H12]; · iapply (owns_any c arg14 _); iexact H12
  isplitl [H13]; · iapply (owns_any c arg15 _); iexact H13
  isplitl [H14]; · iapply (owns_any c arg16 _); iexact H14
  isplitl [H15]; · iapply (owns_any c arg17 _); iexact H15
  isplitl [H16]; · iapply (owns_any c arg18 _); iexact H16
  isplitl [H17]; · iapply (owns_any c arg19 _); iexact H17
  iapply (owns_any c arg20 _); iexact H18

end Cert.KernelIdeal.Own

end
-- ==== Proof.KernelIdealFrame.lean ====
/-
  `KernelIdeal` runs, faults nowhere, leaves its arguments as they were and every semaphore at zero. Nothing is said here of what
  the outputs hold: the pipeline's proof data forgets the five output windows, and its invariant owns the scratch at any contents.
-/
module

public import proofs.«01_k».proof.Proof.KernelIdealRunE
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows whose contents this module says nothing of: the five outputs. -/
def fgt : Fin cfg0.W → Bool
  | ⟨0, _⟩ => false | ⟨1, _⟩ => false | ⟨2, _⟩ => false | ⟨3, _⟩ => false | ⟨4, _⟩ => false | ⟨5, _⟩ => false | ⟨6, _⟩ => false
  | ⟨7, _⟩ => true | ⟨8, _⟩ => true | ⟨9, _⟩ => true | ⟨10, _⟩ => true | ⟨11, _⟩ => true

/-- The proof data: the arrays as the region finds them, each input's buffer at its block after every point. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (7 : Fin cfg0.W) t
    | ⟨8, _⟩ => Pipeline.Dat.unnamed (8 : Fin cfg0.W) t
    | ⟨9, _⟩ => Pipeline.Dat.unnamed (9 : Fin cfg0.W) t
    | ⟨10, _⟩ => Pipeline.Dat.unnamed (10 : Fin cfg0.W) t
    | ⟨11, _⟩ => Pipeline.Dat.unnamed (11 : Fin cfg0.W) t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d

set_option maxHeartbeats 1600000 in
/-- The body at any point: the point's case says which run applies. -/
theorem fsound_body (c : Dev nD) (t : Fin cfg0.N) :
    iprop((fdats m 0 c).Φ t.castSucc ∗ (fdats m 0 c).owesAt () t.castSucc ∗ (∃ d, owns (c : Thread nD τ) (ms0_0 t) fullShare ((fdats m 0 c).before 0 t d)) ∗ (∃ d, owns (c : Thread nD τ) (ms0_1 t) fullShare ((fdats m 0 c).before 1 t d)) ∗ (∃ d, owns (c : Thread nD τ) (ms0_2 t) fullShare ((fdats m 0 c).before 2 t d)) ∗ (∃ d, owns (c : Thread nD τ) (ms0_3 t) fullShare ((fdats m 0 c).before 3 t d)) ∗ (∃ d, owns (c : Thread nD τ) (ms0_4 t) fullShare ((fdats m 0 c).before 4 t d)) ∗ (∃ d, owns (c : Thread nD τ) (ms0_5 t) fullShare ((fdats m 0 c).before 5 t d)) ∗ (∃ d, owns (c : Thread nD τ) (ms0_6 t) fullShare ((fdats m 0 c).before 6 t d)) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X))
      ⊢ wp frame (wpE (defs₀ (F := F)) Variants.none c none) Set.univ (bodyAt0 t) (fun _ =>
        iprop((fdats m 0 c).Φ t.succ ∗ (fdats m 0 c).owesAt () t.succ ∗ owns (c : Thread nD τ) (ms0_0 t) fullShare ((fdats m 0 c).after 0 t) ∗ owns (c : Thread nD τ) (ms0_1 t) fullShare ((fdats m 0 c).after 1 t) ∗ owns (c : Thread nD τ) (ms0_2 t) fullShare ((fdats m 0 c).after 2 t) ∗ owns (c : Thread nD τ) (ms0_3 t) fullShare ((fdats m 0 c).after 3 t) ∗ owns (c : Thread nD τ) (ms0_4 t) fullShare ((fdats m 0 c).after 4 t) ∗ owns (c : Thread nD τ) (ms0_5 t) fullShare ((fdats m 0 c).after 5 t) ∗ owns (c : Thread nD τ) (ms0_6 t) fullShare ((fdats m 0 c).after 6 t) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X))) := by
  unfold bodyAt0
  simp only [fbefore_0, fafter_0, fbefore_1, fafter_1, fbefore_2, fafter_2, fbefore_3, fafter_3, fbefore_4, fafter_4, fbefore_5, fafter_5, fbefore_6, fafter_6]
  rw [show (fdats m 0 c).owesAt () t.succ = (fdats m 0 c).owesAt () t.castSucc from rfl]
  rw [show (fdats m 0 c).Φ t.succ = Pipeline.ΦA spec0 c from rfl, show (fdats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  have hN : t.val < 128 := lt_of_lt_of_eq t.isLt (show cfg0.N = 128 from N_0)
  rcases (show (t.val % 16 = 0 ∧ t.val % 16 ≤ 7 ∧ ¬t.val % 16 = 8 ∧ ¬8 ≤ t.val % 16 ∧ ¬t.val % 16 = 15)
      ∨ (¬t.val % 16 = 0 ∧ t.val % 16 ≤ 7 ∧ ¬t.val % 16 = 8 ∧ ¬8 ≤ t.val % 16 ∧ ¬t.val % 16 = 15)
      ∨ (¬t.val % 16 = 0 ∧ ¬t.val % 16 ≤ 7 ∧ t.val % 16 = 8 ∧ 8 ≤ t.val % 16 ∧ ¬t.val % 16 = 15)
      ∨ (¬t.val % 16 = 0 ∧ ¬t.val % 16 ≤ 7 ∧ ¬t.val % 16 = 8 ∧ 8 ≤ t.val % 16 ∧ ¬t.val % 16 = 15)
      ∨ (¬t.val % 16 = 0 ∧ ¬t.val % 16 ≤ 7 ∧ ¬t.val % 16 = 8 ∧ 8 ≤ t.val % 16 ∧ t.val % 16 = 15) by omega) with
    ⟨h0, h1, h2, h3, h4⟩ | ⟨h0, h1, h2, h3, h4⟩ | ⟨h0, h1, h2, h3, h4⟩ | ⟨h0, h1, h2, h3, h4⟩ | ⟨h0, h1, h2, h3, h4⟩
  · iapply (run_A c (grid0.coords t) _ _ _ _ _ _ _ _ _ _ _ _ _ _ _ _ _ _ _ _ _ _ _ _ _ _ _ _ _ _ _ _ _ _ _ _ _ _  ((hcond0_0 t).mpr h0) ((hcond0_1 t).mpr h1) (fun h => h2 ((hcond0_2 t).mp h)) (fun h => h3 ((hcond0_3 t).mp h)) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_B c (grid0.coords t) _ _ _ _ _ _ _ _ _ _ _ _ _ _ _ _ _ _ _ _ _ _ _ _ _ _ _ _ _ _ _ _ _ _ _ _ _ _  (fun h => h0 ((hcond0_0 t).mp h)) ((hcond0_1 t).mpr h1) (fun h => h2 ((hcond0_2 t).mp h)) (fun h => h3 ((hcond0_3 t).mp h)) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_C c (grid0.coords t) _ _ _ _ _ _ _ _ _ _ _ _ _ _ _ _ _ _ _ _ _ _ _ _ _ _ _ _ _ _ _ _ _ _ _ _ _ _  (fun h => h0 ((hcond0_0 t).mp h)) (fun h => h1 ((hcond0_1 t).mp h)) ((hcond0_2 t).mpr h2) ((hcond0_3 t).mpr h3) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_D c (grid0.coords t) _ _ _ _ _ _ _ _ _ _ _ _ _ _ _ _ _ _ _ _ _ _ _ _ _ _ _ _ _ _ _ _ _ _ _ _ _ _  (fun h => h0 ((hcond0_0 t).mp h)) (fun h => h1 ((hcond0_1 t).mp h)) (fun h => h2 ((hcond0_2 t).mp h)) ((hcond0_3 t).mpr h3) (fun h => h4 ((hcond0_4 t).mp h)) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (run_E c (grid0.coords t) _ _ _ _ _ _ _ _ _ _ _ _ _ _ _ _ _ _ _ _ _ _ _ _ _ _ _ _ _ _ _ _ _ _ _ _ _ _  (fun h => h0 ((hcond0_0 t).mp h)) (fun h => h1 ((hcond0_1 t).mp h)) (fun h => h2 ((hcond0_2 t).mp h)) ((hcond0_3 t).mpr h3) ((hcond0_4 t).mpr h4) _ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem fdefs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem fbody_obligation (c : Dev nD) :
    BodyObligation (fdats (F := F) m 0 c) (defs₀ (F := F)) Variants.none () Set.univ fgt := fun t => by
  rw [bigSep_W0, bigSep_W0, fdefs₀_row]
  exact triple_restated (fsound_body m c t) rfl .rfl fun _ => .rfl

/-- The buffers that the host operations after the region write. -/
def tailWrites : Finset (Ref sig .tc) := {main_v8, main_v9, main_v10, main_v11, main_v12, main_v13, main_v14}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl
  all_goals
    simp only [StableHlo.unary_writes, StableHlo.reshape_writes, Finset.mem_singleton] at hb
    have hb' := Proc.devRef_injective _ hb
    subst hb'
    decide

set_option backward.isDefEq.respectTransparency.types false in
set_option maxHeartbeats 800000 in
/-- The run: the arrays, the outputs' left open, and every other unscoped buffer that no host line writes as it was. -/
theorem frun : θ_run defs (onTc (τ := τ) (main (F := F))) (s₀ m ρ)
    (fun r => (Pipeline.RDat.FramePostR cfg0 (fun c => (fdats m 0 c).toRForget fgt) tailWrites (fun c b => V0 m c (Proc.devRef .tc b)) r)
      ∧ r.2.sem = fun _ => 0) :=
  Pipeline.θ_run_frame_around_T_forget (Q' := _) cfgs (fdats m) (0 : Fin 1) launch0 defs₀ Variants.none fgt tailWrites m ρ main
    (hbody := fun c => (fbody_obligation m c).loose) (hshare := fun c => (fdats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fA_eq m) (hΦ := fun _ _ => rfl)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    have rest := fun (b : Ref sig .tc) (h1 : b ∈ Pipeline.restRefs sig cfg0.spec) (h2 : b ∉ tailWrites) => (h.1 c).2 b (Finset.mem_sdiff.mpr ⟨h1, h2⟩)
    ⟨(rest main_arg0 (Pipeline.mem_restRefs_of main_arg0 (by decide) (by decide)) (by decide)).trans (V_main_arg0 m c),
      (rest main_arg1 (Pipeline.mem_restRefs_of main_arg1 (by decide) (by decide)) (by decide)).trans (V_main_arg1 m c),
      (rest main_arg2 (Pipeline.mem_restRefs_of main_arg2 (by decide) (by decide)) (by decide)).trans (V_main_arg2 m c),
      (Pipeline.RDat.FramePostR.arr_in h.1 c 3 rfl).trans ((fA_eq m c 3).trans (V_main_arg3 m c)),
      (rest main_arg4 (Pipeline.mem_restRefs_of main_arg4 (by decide) (by decide)) (by decide)).trans (V_main_arg4 m c),
      (Pipeline.RDat.FramePostR.arr_in h.1 c 5 rfl).trans ((fA_eq m c 5).trans (V_main_arg5 m c)),
      (rest main_arg6 (Pipeline.mem_restRefs_of main_arg6 (by decide) (by decide)) (by decide)).trans (V_main_arg6 m c)⟩, h.2⟩) (frun m ρ)

end Cert.KernelIdeal.Own

end
-- ==== Proof.Frames.lean ====
/-
  The claims without a value: each of the three programs runs, leaves its arguments as they were and every semaphore at
  zero, and the kernel with its named scale is the kernel's idealization.
-/
module

public import proofs.«01_k».proof.Defs
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

namespace Cert.Proof

open Idealize.ShloMosaic Idealize.SL.Sem

theorem frame_p : Cert.quiescent_Kernel := fun m ρ _ => Cert.Kernel.Own.frame m ρ
theorem frame_pi : Cert.quiescent_KernelIdeal := fun m ρ _ => Cert.KernelIdeal.Own.frame m ρ
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The constant named in the kernel is the value that the claim's table gives to the name. -/
theorem preserves : Cert.preserves_Kernel_KernelIdeal :=
  IdealRules.named_const.statement Cert.KernelIdeal.κ "log2e_inv_sqrt_d" .f32 0x3E0293EE#32 (((Real.log 2)⁻¹ * (Real.sqrt 128)⁻¹ : ℝ) : EReal) rfl

end Cert.Proof

end
-- ==== Proof.PiecesA.lean ====
/-
  The body run as a whole at the first point of a batch (case A of its conditionals), with what it writes: the pieces that each buffer it
  stores into ends with are found by the run.
-/
module

public import proofs.«01_k».proof.Proof.KernelIdealRunE

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case A and the pieces it writes. -/
noncomputable def pieces_A (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : cond0_0 i) (hc1 : cond0_1 i) (hc2 : ¬cond0_2 i) (hc3 : ¬cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (x7 : Vec F S1x512x128 .bf16) (x12 : Vec F S512x8192 .f32) (x17 : Vec F S512x128 .f32) (x18 : Vec F S512x512 .f32) :
    Σ' (L8 : List (View.Piece (Elt F) S1x32x128 .i8)), Σ' (L9 : List (View.Piece (Elt F) S1x32x1 .f32)), Σ' (L10 : List (View.Piece (Elt F) S1x32x128 .i8)), Σ' (L11 : List (View.Piece (Elt F) S1x32x1 .f32)), Σ' (L12 : List (View.Piece (Elt F) S512x8192 .f32)), Σ' (L13 : List (View.Piece (Elt F) S512x512 .bf16)), Σ' (L14 : List (View.Piece (Elt F) S512x128 .f32)), Σ' (L15 : List (View.Piece (Elt F) S128x512 .bf16)), { L16 : List (View.Piece (Elt F) S512x128 .f32) //
      ∀ (E : Set ℕ) (K : PUnit → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ owns (c : Thread nD τ) arg14 fullShare x12 ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ owns (c : Thread nD τ) arg19 fullShare x17 ∗ owns (c : Thread nD τ) arg20 fullShare x18 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread x12) L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ owns (c : Thread nD τ) arg19 fullShare x17 ∗ owns (c : Thread nD τ) arg20 fullShare x18) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, fun E K => ?run⟩
  case run =>
    simp only [cc0__attention_kernel_eq_skeleton]; unfold cc0__attention_kernel_skel
    simp only [k0_part15_eq_skeleton, k0_part1_eq_skeleton, k0_part2_eq_skeleton, k0_part3_eq_skeleton, k0_part4_eq_skeleton, k0_part5_eq_skeleton, k0_part6_eq_skeleton, k0_part8_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg19.eq_unread hf17; obtain rfl := harg20.eq_unread hf18
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    isplitl [H11]
    · iexists _; iexact H11
    isplitl [H12]
    · iexact H12
    isplitl [H13]
    · iexists _; iexact H13
    isplitl [H14]
    · iexists _; iexact H14
    isplitl [H15]
    · iexists _; iexact H15
    isplitl [H16]
    · iexists _; iexact H16
    isplitl [H17]
    · iexists _; isplitr; · ipureintro; exact harg19.read_unread _
      iexact H17
    iexists _; isplitr; · ipureintro; exact harg20.read_unread _
    iexact H18

end Cert.KernelIdeal.Own

end
-- ==== Proof.Words.lean ====
/-
  The kernel's int8 blocks read through 32-bit words: four heads of one token share a word, the words are transposed, and
  read as bytes again they are the codes with the head as the fastest row coordinate.
-/
module

public import proofs.«01_k».proof.Proof.Gen.KernelIdeal.Skeleton
public import Idealize.ShloMosaic.Lib.Pointwise
public import Idealize.ShloMosaic.Lib.BitcastFour
public import Idealize.ShloMosaic.Lib.Pipeline.FrameBody

@[expose] public section

set_option maxRecDepth 16384

noncomputable section

namespace Cert.KernelIdeal.Own

open Idealize.ShloMosaic Idealize.ShloMosaic.TcCoe Idealize.SL.Sem
open Cert.KernelIdeal Cert.KernelIdeal.Gen

/-- Words read as bytes: byte row `w` of a column is byte `w % 4` of word row `w / 4`. -/
theorem bytes_getLsbD (X : IVec S128x1024 32) (w : Fin 512) (t : Fin 1024) (q : ℕ) (hq : q < 8) :
    (bitcast S512x1024 8 X bitcasts_S128x1024_w32_S512x1024_w8 (ix2 w t)).getLsbD q
      = (X (ix2 ⟨w.val / 4, by omega⟩ t)).getLsbD (8 * (w.val % 4) + q) := by
  rw [bitcast_getLsbD X _ _ q hq (by decide)]
  have hrow : S512x1024.row (ix2 w t) = w.val := rfl
  have e1 : (S512x1024.row (ix2 w t) * 8 + q) / 32 = w.val / 4 := by rw [hrow]; omega
  have e2 : (S512x1024.row (ix2 w t) * 8 + q) % 32 = 8 * (w.val % 4) + q := by rw [hrow]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- Bytes read as words: byte `q / 8` of word row `a` is byte row `4 a + q / 8`. -/
theorem words_getLsbD (Y : IVec S8192x128 8) (a : Fin 2048) (d : Fin 128) (q : ℕ) (hq : q < 32) :
    (bitcast S2048x128 32 Y bitcasts_S8192x128_w8_S2048x128_w32 (ix2 a d)).getLsbD q
      = (Y (ix2 ⟨4 * a.val + q / 8, by omega⟩ d)).getLsbD (q % 8) :=
  bitcast_8_32_getLsbD_ix2 Y _ a d q hq _ rfl

/-- The words of a block of codes, one row per token and group of four heads. -/
theorem wordsOf_getLsbD (v : IVec S1x1024x8x128 8) (t : Fin 1024) (g : Fin 2) (d : Fin 128) (q : ℕ) (hq : q < 32) :
    (k0_pay40 (F := Ideal) v (ix3 t g d)).getLsbD q
      = (v (ix4 0 t ⟨4 * g.val + q / 8, by omega⟩ d)).getLsbD (q % 8) := by
  pointwise [k0_pay40]
  rw [words_getLsbD _ _ _ q hq]
  pointwise
  congr 2
  idx_ext <;> omega

/-- Group `g`'s codes of a block, as the rows of the dequantised matrix: row `w` is head `w % 4` of the group, feature `w / 4`. -/
theorem codes_eq (v : IVec S1x1024x8x128 8) (X : IVec S128x1024 32) (g : Fin 2)
    (hX : ∀ (d : Fin 128) (t : Fin 1024), X (ix2 d t) = k0_pay40 (F := Ideal) v (ix3 t g d)) (w : Fin 512) (t : Fin 1024) :
    bitcast S512x1024 8 X bitcasts_S128x1024_w32_S512x1024_w8 (ix2 w t)
      = v (ix4 0 t ⟨4 * g.val + w.val % 4, by omega⟩ ⟨w.val / 4, by omega⟩) := by
  apply BitVec.eq_of_getLsbD_eq
  intro q hq
  rw [bytes_getLsbD X w t q hq, hX, wordsOf_getLsbD v t g _ _ (by omega)]
  have e1 : (8 * (w.val % 4) + q) / 8 = w.val % 4 := by omega
  have e2 : (8 * (w.val % 4) + q) % 8 = q := by omega
  simp only [e1, e2]

/-- A dequantised block at Ideal: code times scale, the head fastest. -/
def deq (v : IVec S1x1024x8x128 8) (s : FVec Ideal S1x4x1024 .f32) (g : Fin 2) (w : Fin 512) (t : Fin 1024) : EReal :=
  Scalar.sitofp (F := Ideal) .bf16 (v (ix4 0 t ⟨4 * g.val + w.val % 4, by omega⟩ ⟨w.val / 4, by omega⟩))
    * s (ix3 0 ⟨w.val % 4, by omega⟩ t)

theorem pay41_apply (v : IVec S1x1024x8x128 8) (s : FVec Ideal S1x4x1024 .f32) (q : FVec Ideal S256x512 .bf16)
    (r : Fin 256) (t : Fin 1024) :
    k0_pay41 (F := Ideal) v s q (ix2 r t) = ∑ w : Fin 512, q (ix2 r w) * deq v s 0 w t := by
  pointwise [k0_pay41]
  refine Finset.sum_congr rfl fun w _ => ?_
  rw [codes_eq v _ 0 (fun d t => by pointwise)]
  unfold deq
  refine congrArg _ (congrArg₂ _ rfl ?_)
  repeat' split
  all_goals first
    | (congr 2; exact Fin.ext (by show _ = w.val % 4; dsimp only; omega))
    | omega

theorem pay45_apply (v : IVec S1x1024x8x128 8) (s : FVec Ideal S1x4x1024 .f32) (q : FVec Ideal S256x512 .bf16)
    (r : Fin 256) (t : Fin 1024) :
    k0_pay45 (F := Ideal) (k0_pay40 (F := Ideal) v) s q (ix2 r t) = ∑ w : Fin 512, q (ix2 r w) * deq v s 1 w t := by
  pointwise [k0_pay45]
  refine Finset.sum_congr rfl fun w _ => ?_
  rw [codes_eq v _ 1 (fun d t => by pointwise)]
  unfold deq
  refine congrArg _ (congrArg₂ _ rfl ?_)
  repeat' split
  all_goals first
    | (congr 2; exact Fin.ext (by show _ = w.val % 4; dsimp only; omega))
    | omega

theorem pay49_apply (v : IVec S1x1024x8x128 8) (s : FVec Ideal S1x4x1024 .f32) (w : Fin 512) (t : Fin 1024) :
    k0_pay49 (F := Ideal) v s (ix2 w t) = deq v s 0 w t := by
  pointwise [k0_pay49]
  rw [codes_eq v _ 0 (fun d t => by pointwise [k0_pay48, k0_pay40])]
  unfold deq
  refine congrArg₂ _ rfl ?_
  repeat' split
  all_goals first
    | (congr 2; exact Fin.ext (by show _ = w.val % 4; dsimp only; omega))
    | omega

theorem pay70_apply (v : IVec S1x1024x8x128 8) (s : FVec Ideal S1x4x1024 .f32) (w : Fin 512) (t : Fin 1024) :
    k0_pay70 (F := Ideal) (k0_pay69 (k0_pay48 (F := Ideal) v)) s (ix2 w t) = deq v s 1 w t := by
  pointwise [k0_pay70, k0_pay69]
  rw [codes_eq v _ 1 (fun d t => by pointwise [k0_pay48, k0_pay40])]
  unfold deq
  refine congrArg₂ _ rfl ?_
  repeat' split
  all_goals first
    | (congr 2; exact Fin.ext (by show _ = w.val % 4; dsimp only; omega))
    | omega

/-- A lane's maximum over the lane's columns of a block of scores. -/
def laneMax (S : FVec Ideal S256x1024 .f32) (m : FVec Ideal S256x128 .f32) : FVec Ideal S256x128 .f32 :=
  maximumf (maximumf (maximumf (maximumf (maximumf (maximumf (maximumf (maximumf m (extractStridedSlice S256x128 ![0, 0] S slices_S256x1024_o0_0_S256x128)) (extractStridedSlice S256x128 ![0, 128] S slices_S256x1024_o0_128_S256x128)) (extractStridedSlice S256x128 ![0, 256] S slices_S256x1024_o0_256_S256x128)) (extractStridedSlice S256x128 ![0, 384] S slices_S256x1024_o0_384_S256x128)) (extractStridedSlice S256x128 ![0, 512] S slices_S256x1024_o0_512_S256x128)) (extractStridedSlice S256x128 ![0, 640] S slices_S256x1024_o0_640_S256x128)) (extractStridedSlice S256x128 ![0, 768] S slices_S256x1024_o0_768_S256x128)) (extractStridedSlice S256x128 ![0, 896] S slices_S256x1024_o0_896_S256x128)

theorem laneMax_le (S : FVec Ideal S256x1024 .f32) (m : FVec Ideal S256x128 .f32) (r : Fin 256) (l : Fin 128) (z : EReal) :
    laneMax S m (ix2 r l) ≤ z ↔ m (ix2 r l) ≤ z ∧ ∀ t : Fin 1024, t.val % 128 = l.val → S (ix2 r t) ≤ z := by
  pointwise [laneMax]
  simp only [max_le_iff, and_assoc]
  refine and_congr_right fun _ => ⟨fun ⟨h0, h1, h2, h3, h4, h5, h6, h7⟩ t ht => ?_, fun h => ⟨?_, ?_, ?_, ?_, ?_, ?_, ?_, ?_⟩⟩
  · have hl := l.isLt
    have htt := t.isLt
    obtain ⟨c, hc, e⟩ : ∃ c : ℕ, c < 8 ∧ t.val = 128 * c + l.val := ⟨t.val / 128, by omega, by omega⟩
    interval_cases c
    all_goals
      first
        | (rw [show t = ⟨l.val, by omega⟩ from Fin.ext (by simpa using e)]; assumption)
        | (rw [show t = ⟨_ + l.val, by omega⟩ from Fin.ext e]; assumption)
  all_goals exact h _ (by dsimp only; have := l.isLt; omega)

/-- A score's weight against a row maximum. -/
def pw (s m : EReal) : EReal :=
  FloatOps.exp2 (F := Ideal) (φ := .f32) ((s - m) * (Named.named (F := Ideal) (φ := .f32) κ "log2e_inv_sqrt_d" 0x3E0293EE#32 : EReal) : EReal)

/-- The lanes' sums after a block. -/
theorem lane_sums (m l s0 s1 s2 s3 s4 s5 s6 s7 : FVec Ideal S256x128 .f32) (r : Fin 256) (c : Fin 128) (S : ℕ → EReal)
    (M : EReal) (hm : m (ix2 r c) = M)
    (h0 : s0 (ix2 r c) = S c.val) (h1 : s1 (ix2 r c) = S (128 + c.val)) (h2 : s2 (ix2 r c) = S (256 + c.val))
    (h3 : s3 (ix2 r c) = S (384 + c.val)) (h4 : s4 (ix2 r c) = S (512 + c.val)) (h5 : s5 (ix2 r c) = S (640 + c.val))
    (h6 : s6 (ix2 r c) = S (768 + c.val)) (h7 : s7 (ix2 r c) = S (896 + c.val)) :
    k0_pay67 (F := Ideal) m (k0_pay62 m (k0_pay51 m l s0) (k0_pay53 m s1) (k0_pay54 (F := Ideal)) s2 s3 s4) s5 s6 s7 (ix2 r c)
      = l (ix2 r c) + ∑ k ∈ Finset.range 8, pw (S (128 * k + c.val)) M := by
  pointwise [k0_pay67, k0_pay62, k0_pay51, k0_pay53, k0_pay54, k0_pay50, k0_pay55, k0_pay57, k0_pay59, k0_pay61, k0_pay64, k0_pay65, k0_pay66]
  rw [hm, h0, h1, h2, h3, h4, h5, h6, h7]
  simp only [Finset.sum_range_succ, Finset.range_zero, Finset.sum_empty, zero_add, Nat.mul_zero, Nat.mul_one, Nat.reduceMul, add_assoc]
  rfl

theorem lane_sums' (m l s0 s1 s2 s3 s4 s5 s6 s7 : FVec Ideal S256x128 .f32) (r : Fin 256) (c : Fin 128) (S : ℕ → EReal)
    (M : EReal) (hm : m (ix2 r c) = M)
    (h0 : s0 (ix2 r c) = S c.val) (h1 : s1 (ix2 r c) = S (128 + c.val)) (h2 : s2 (ix2 r c) = S (256 + c.val))
    (h3 : s3 (ix2 r c) = S (384 + c.val)) (h4 : s4 (ix2 r c) = S (512 + c.val)) (h5 : s5 (ix2 r c) = S (640 + c.val))
    (h6 : s6 (ix2 r c) = S (768 + c.val)) (h7 : s7 (ix2 r c) = S (896 + c.val)) :
    k0_pay3 (F := Ideal) m (k0_pay83 m (k0_pay74 m l s0 s1) s2 s3 s4 s5) s6 s7 (ix2 r c)
      = l (ix2 r c) + ∑ k ∈ Finset.range 8, pw (S (128 * k + c.val)) M := by
  pointwise [k0_pay3, k0_pay83, k0_pay74, k0_pay71, k0_pay73, k0_pay76, k0_pay78, k0_pay80, k0_pay82, k0_pay1, k0_pay2]
  rw [hm, h0, h1, h2, h3, h4, h5, h6, h7]
  simp only [Finset.sum_range_succ, Finset.range_zero, Finset.sum_empty, zero_add, Nat.mul_zero, Nat.mul_one, Nat.reduceMul, add_assoc]
  rfl

/-- The accumulator after a block. -/
theorem acc_sums (v : FVec Ideal S512x1024 .bf16) (m s0 s1 s2 s3 s4 s5 s6 s7 : FVec Ideal S256x128 .f32)
    (acc : FVec Ideal S256x512 .f32) (r : Fin 256) (w : Fin 512) (S : ℕ → EReal)
    (M : EReal) (hm : ∀ c, m (ix2 r c) = M)
    (h0 : ∀ c : Fin 128, s0 (ix2 r c) = S c.val) (h1 : ∀ c : Fin 128, s1 (ix2 r c) = S (128 + c.val))
    (h2 : ∀ c : Fin 128, s2 (ix2 r c) = S (256 + c.val)) (h3 : ∀ c : Fin 128, s3 (ix2 r c) = S (384 + c.val))
    (h4 : ∀ c : Fin 128, s4 (ix2 r c) = S (512 + c.val)) (h5 : ∀ c : Fin 128, s5 (ix2 r c) = S (640 + c.val))
    (h6 : ∀ c : Fin 128, s6 (ix2 r c) = S (768 + c.val)) (h7 : ∀ c : Fin 128, s7 (ix2 r c) = S (896 + c.val)) :
    k0_pay68 (F := Ideal) v m (k0_pay52 m s0) (k0_pay56 (k0_pay53 m s1) (k0_pay54 (F := Ideal))) (k0_pay58 m s2) (k0_pay60 m s3) (k0_pay63 m s4) s5 s6 s7 acc (ix2 r w)
      = acc (ix2 r w) + ∑ t : Fin 1024, pw (S t.val) M * v (ix2 w t) := by
  pointwise [k0_pay68, k0_pay52, k0_pay56, k0_pay53, k0_pay54, k0_pay58, k0_pay60, k0_pay63, k0_pay50, k0_pay55, k0_pay57, k0_pay59, k0_pay61, k0_pay64, k0_pay65, k0_pay66]
  refine congrArg _ (Finset.sum_congr rfl fun t _ => congrArg (· * v (ix2 w t)) ?_)
  have ht := t.isLt
  simp only [hm, h0, h1, h2, h3, h4, h5, h6, h7]
  repeat' split
  all_goals
    unfold pw
    congr 4 <;> omega

theorem acc_sums' (v : FVec Ideal S512x1024 .bf16) (m s0 s1 s2 s3 s4 s5 s6 s7 : FVec Ideal S256x128 .f32)
    (acc : FVec Ideal S256x512 .f32) (r : Fin 256) (w : Fin 512) (S : ℕ → EReal)
    (M : EReal) (hm : ∀ c, m (ix2 r c) = M)
    (h0 : ∀ c : Fin 128, s0 (ix2 r c) = S c.val) (h1 : ∀ c : Fin 128, s1 (ix2 r c) = S (128 + c.val))
    (h2 : ∀ c : Fin 128, s2 (ix2 r c) = S (256 + c.val)) (h3 : ∀ c : Fin 128, s3 (ix2 r c) = S (384 + c.val))
    (h4 : ∀ c : Fin 128, s4 (ix2 r c) = S (512 + c.val)) (h5 : ∀ c : Fin 128, s5 (ix2 r c) = S (640 + c.val))
    (h6 : ∀ c : Fin 128, s6 (ix2 r c) = S (768 + c.val)) (h7 : ∀ c : Fin 128, s7 (ix2 r c) = S (896 + c.val)) :
    k0_pay4 (F := Ideal) v m (k0_pay72 m s0) (k0_pay75 m s1) (k0_pay77 m s2) (k0_pay79 m s3) (k0_pay81 m s4) (k0_pay84 m s5) s6 s7 acc (ix2 r w)
      = acc (ix2 r w) + ∑ t : Fin 1024, pw (S t.val) M * v (ix2 w t) := by
  pointwise [k0_pay4, k0_pay72, k0_pay75, k0_pay77, k0_pay79, k0_pay81, k0_pay84, k0_pay71, k0_pay73, k0_pay76, k0_pay78, k0_pay80, k0_pay82, k0_pay1, k0_pay2]
  refine congrArg _ (Finset.sum_congr rfl fun t _ => congrArg (· * v (ix2 w t)) ?_)
  have ht := t.isLt
  simp only [hm, h0, h1, h2, h3, h4, h5, h6, h7]
  repeat' split
  all_goals
    unfold pw
    congr 4 <;> omega

/-- A block of codes with its scales, dequantised: group `g`'s head `w % 4` and feature `w / 4` of token `t`. -/
def dq (x : IVec S1x1024x8x128 8) (s : FVec Ideal S1x8x1024 .f32) (g : Fin 2) (w : Fin 512) (t : Fin 1024) : EReal :=
  Scalar.sitofp (F := Ideal) .bf16 (x (ix4 0 t ⟨4 * g.val + w.val % 4, by omega⟩ ⟨w.val / 4, by omega⟩))
    * s (ix3 0 ⟨4 * g.val + w.val % 4, by omega⟩ t)

theorem deq_ld0 (x : IVec S1x1024x8x128 8) (s : FVec Ideal S1x8x1024 .f32) (inb) (w : Fin 512) (t : Fin 1024) :
    deq x (View.ld (S := S1x8x1024) (e' := .f32) (Val := Elt Ideal) s (Rect.unit ![0, 0, 0] ![1, 4, 1024] inb)) 0 w t = dq x s 0 w t := by
  unfold deq dq
  refine congrArg _ (congrArg s ?_)
  idx_ext <;> simp

theorem deq_ld1 (x : IVec S1x1024x8x128 8) (s : FVec Ideal S1x8x1024 .f32) (inb) (w : Fin 512) (t : Fin 1024) :
    deq x (View.ld (S := S1x8x1024) (e' := .f32) (Val := Elt Ideal) s (Rect.unit ![0, 4, 0] ![1, 4, 1024] inb)) 1 w t = dq x s 1 w t := by
  unfold deq dq
  refine congrArg _ (congrArg s ?_)
  idx_ext <;> simp

/-- A load of rows and columns from offsets, read at an index. -/
theorem ld_q (X : FVec Ideal S512x512 .bf16) (off : Fin 2 → ℕ) (o p : ℕ) (heq : off = ![o, p]) (inb) (r : Fin 256) (t : Fin 512) (hr : o + r.val < 512) (ht : p + t.val < 512) :
    View.ld (S := S512x512) (e' := .bf16) (Val := Elt Ideal) X (Rect.unit off ![256, 512] inb) (ix2 r t) = X (ix2 ⟨o + r.val, hr⟩ ⟨p + t.val, ht⟩) := by
  subst heq
  refine congrArg X ?_
  idx_ext <;> simp

theorem ld_acc (X : FVec Ideal S512x512 .f32) (off : Fin 2 → ℕ) (o p : ℕ) (heq : off = ![o, p]) (inb) (r : Fin 256) (t : Fin 512) (hr : o + r.val < 512) (ht : p + t.val < 512) :
    View.ld (S := S512x512) (e' := .f32) (Val := Elt Ideal) X (Rect.unit off ![256, 512] inb) (ix2 r t) = X (ix2 ⟨o + r.val, hr⟩ ⟨p + t.val, ht⟩) := by
  subst heq
  refine congrArg X ?_
  idx_ext <;> simp

theorem ld_m (X : FVec Ideal S512x128 .f32) (off : Fin 2 → ℕ) (o p : ℕ) (heq : off = ![o, p]) (inb) (r : Fin 256) (t : Fin 128) (hr : o + r.val < 512) (ht : p + t.val < 128) :
    View.ld (S := S512x128) (e' := .f32) (Val := Elt Ideal) X (Rect.unit off ![256, 128] inb) (ix2 r t) = X (ix2 ⟨o + r.val, hr⟩ ⟨p + t.val, ht⟩) := by
  subst heq
  refine congrArg X ?_
  idx_ext <;> simp

theorem ld_s (X : FVec Ideal S512x8192 .f32) (off : Fin 2 → ℕ) (o p : ℕ) (heq : off = ![o, p]) (inb) (r : Fin 256) (t : Fin 128) (hr : o + r.val < 512) (ht : p + t.val < 8192) :
    View.ld (S := S512x8192) (e' := .f32) (Val := Elt Ideal) X (Rect.unit off ![256, 128] inb) (ix2 r t) = X (ix2 ⟨o + r.val, hr⟩ ⟨p + t.val, ht⟩) := by
  subst heq
  refine congrArg X ?_
  idx_ext <;> simp

/-- The score of a row against a token of the block. -/
def sc (x13 : FVec Ideal S512x512 .bf16) (x3 : IVec S1x1024x8x128 8) (x4 : FVec Ideal S1x8x1024 .f32) (r : Fin 512) (u : Fin 1024) : EReal :=
  ∑ w : Fin 512, x13 (ix2 r w) * dq x3 x4 ⟨r.val / 256, by omega⟩ w u

theorem sc_lo (x13 : FVec Ideal S512x512 .bf16) (x3 : IVec S1x1024x8x128 8) (x4 : FVec Ideal S1x8x1024 .f32) (inb inb') (r : Fin 256) (u : Fin 1024) :
    k0_pay41 (F := Ideal) x3 (View.ld (S := S1x8x1024) (e' := .f32) (Val := Elt Ideal) x4 (Rect.unit ![0, 0, 0] ![1, 4, 1024] inb))
      (View.ld (S := S512x512) (e' := .bf16) (Val := Elt Ideal) x13 (Rect.unit ![0, 0] ![256, 512] inb')) (ix2 r u) = sc x13 x3 x4 ⟨r.val, by omega⟩ u := by
  unfold sc
  rw [pay41_apply]
  refine Finset.sum_congr rfl fun w _ => ?_
  rw [deq_ld0, ld_q x13 _ 0 0 rfl _ _ _ (by omega) (by omega)]
  have e : (⟨r.val / 256, by omega⟩ : Fin 2) = 0 := Fin.ext (by show r.val / 256 = 0; omega)
  simp only [e, Nat.zero_add]

theorem sc_hi (x13 : FVec Ideal S512x512 .bf16) (x3 : IVec S1x1024x8x128 8) (x4 : FVec Ideal S1x8x1024 .f32) (inb inb') (r : Fin 256) (u : Fin 1024) :
    k0_pay45 (F := Ideal) (k0_pay40 (F := Ideal) x3) (View.ld (S := S1x8x1024) (e' := .f32) (Val := Elt Ideal) x4 (Rect.unit ![0, 4, 0] ![1, 4, 1024] inb))
      (View.ld (S := S512x512) (e' := .bf16) (Val := Elt Ideal) x13 (Rect.unit ![256, 0] ![256, 512] inb')) (ix2 r u) = sc x13 x3 x4 ⟨256 + r.val, by omega⟩ u := by
  unfold sc
  rw [pay45_apply]
  refine Finset.sum_congr rfl fun w _ => ?_
  rw [deq_ld1, ld_q x13 _ 256 0 rfl _ _ _ (by omega) (by omega)]
  have e : (⟨(256 + r.val) / 256, by omega⟩ : Fin 2) = 1 := Fin.ext (by show (256 + r.val) / 256 = 1; omega)
  simp only [e, Nat.zero_add]

/-- The value pass reads its scores at the block's own columns. -/
theorem off3_eq : ∀ (i : grid0.Coords) (k : Fin 8), 8 ≤ (i 1).val →
    k0_off3 i (BitVec.ofNat 32 (128 * k.val)) = ![0, 1024 * ((i 1).val - 8) + 128 * k.val] := by decide +kernel

theorem off4_eq : ∀ (i : grid0.Coords) (k : Fin 8), 8 ≤ (i 1).val →
    k0_off4 i (BitVec.ofNat 32 (128 * k.val)) = ![256, 1024 * ((i 1).val - 8) + 128 * k.val] := by decide +kernel

end Cert.KernelIdeal.Own

end
-- ==== Proof.Lanes.lean ====
/-
  The value pass over one block, read at an index: the lanes' sums and the accumulator after it, from the buffers before it.
-/
module

public import proofs.«01_k».proof.Proof.Words

@[expose] public section

set_option maxRecDepth 16384

noncomputable section

namespace Cert.KernelIdeal.Own

open Idealize.ShloMosaic Idealize.ShloMosaic.TcCoe Idealize.SL.Sem
open Cert.KernelIdeal Cert.KernelIdeal.Gen

/-- The stored scores, as a function of a row and a token number. -/
def sAt (x12 : FVec Ideal S512x8192 .f32) (r : Fin 512) (t : ℕ) : EReal :=
  if h : t < 8192 then x12 (ix2 r ⟨t, h⟩) else 0

theorem sAt_of (x12 : FVec Ideal S512x8192 .f32) (r : Fin 512) (t : ℕ) (h : t < 8192) : sAt x12 r t = x12 (ix2 r ⟨t, h⟩) := dif_pos h

theorem ld_s3 (x12 : FVec Ideal S512x8192 .f32) (i : grid0.Coords) (hi : 8 ≤ (i 1).val) (k : Fin 8) (b : BitVec 32)
    (hb : b = BitVec.ofNat 32 (128 * k.val)) (inb) (r : Fin 256) (c : Fin 128) (R : Fin 512) (hR : R.val = r.val) :
    View.ld (S := S512x8192) (e' := .f32) (Val := Elt Ideal) x12 (Rect.unit (k0_off3 i b) ![256, 128] inb) (ix2 r c)
      = sAt x12 R (1024 * ((i 1).val - 8) + (128 * k.val + c.val)) := by
  subst hb
  have h1 := (i 1).isLt
  have h2 : (i 1).val < 16 := h1
  rw [ld_s x12 _ 0 _ (off3_eq i k hi) _ _ _ (by omega) (by omega), sAt_of _ _ _ (by omega)]
  refine congrArg x12 ?_
  idx_ext <;> simp <;> omega

theorem ld_s4 (x12 : FVec Ideal S512x8192 .f32) (i : grid0.Coords) (hi : 8 ≤ (i 1).val) (k : Fin 8) (b : BitVec 32)
    (hb : b = BitVec.ofNat 32 (128 * k.val)) (inb) (r : Fin 256) (c : Fin 128) (R : Fin 512) (hR : R.val = 256 + r.val) :
    View.ld (S := S512x8192) (e' := .f32) (Val := Elt Ideal) x12 (Rect.unit (k0_off4 i b) ![256, 128] inb) (ix2 r c)
      = sAt x12 R (1024 * ((i 1).val - 8) + (128 * k.val + c.val)) := by
  subst hb
  have h1 := (i 1).isLt
  have h2 : (i 1).val < 16 := h1
  rw [ld_s x12 _ 256 _ (off4_eq i k hi) _ _ _ (by omega) (by omega), sAt_of _ _ _ (by omega)]
  refine congrArg x12 ?_
  idx_ext <;> simp <;> omega

variable (i : grid0.Coords) (hi : 8 ≤ (i 1).val) (x12 : FVec Ideal S512x8192 .f32) (x16 x17 : FVec Ideal S512x128 .f32)
  (x18 : FVec Ideal S512x512 .f32) (x5 : IVec S1x1024x8x128 8) (x6 : FVec Ideal S1x8x1024 .f32)

include hi in
theorem lanesLo (R : Fin 512) (r : Fin 256) (hR : R.val = r.val) (c : Fin 128) (inb inb' inb0 inb1 inb2 inb3 inb4 inb5 inb6 inb7) :
    k0_pay67 (F := Ideal) (View.ld (S := S512x128) (e' := .f32) (Val := Elt Ideal) x16 (Rect.unit ![0, 0] ![256, 128] inb))
      (k0_pay62 (View.ld (S := S512x128) (e' := .f32) (Val := Elt Ideal) x16 (Rect.unit ![0, 0] ![256, 128] inb)) (k0_pay51 (View.ld (S := S512x128) (e' := .f32) (Val := Elt Ideal) x16 (Rect.unit ![0, 0] ![256, 128] inb)) (View.ld (S := S512x128) (e' := .f32) (Val := Elt Ideal) x17 (Rect.unit ![0, 0] ![256, 128] inb')) (View.ld (S := S512x8192) (e' := .f32) (Val := Elt Ideal) x12 (Rect.unit (k0_off3 i 0#32) ![256, 128] inb0)))
        (k0_pay53 (View.ld (S := S512x128) (e' := .f32) (Val := Elt Ideal) x16 (Rect.unit ![0, 0] ![256, 128] inb)) (View.ld (S := S512x8192) (e' := .f32) (Val := Elt Ideal) x12 (Rect.unit (k0_off3 i 128#32) ![256, 128] inb1))) (k0_pay54 (F := Ideal))
        (View.ld (S := S512x8192) (e' := .f32) (Val := Elt Ideal) x12 (Rect.unit (k0_off3 i 256#32) ![256, 128] inb2)) (View.ld (S := S512x8192) (e' := .f32) (Val := Elt Ideal) x12 (Rect.unit (k0_off3 i 384#32) ![256, 128] inb3)) (View.ld (S := S512x8192) (e' := .f32) (Val := Elt Ideal) x12 (Rect.unit (k0_off3 i 512#32) ![256, 128] inb4)))
      (View.ld (S := S512x8192) (e' := .f32) (Val := Elt Ideal) x12 (Rect.unit (k0_off3 i 640#32) ![256, 128] inb5)) (View.ld (S := S512x8192) (e' := .f32) (Val := Elt Ideal) x12 (Rect.unit (k0_off3 i 768#32) ![256, 128] inb6)) (View.ld (S := S512x8192) (e' := .f32) (Val := Elt Ideal) x12 (Rect.unit (k0_off3 i 896#32) ![256, 128] inb7)) (ix2 r c)
    = x17 (ix2 R c) + ∑ k ∈ Finset.range 8, pw (sAt x12 R (1024 * ((i 1).val - 8) + (128 * k + c.val))) (x16 (ix2 R c)) := by
  have eR : (⟨0 + r.val, by omega⟩ : Fin 512) = R := Fin.ext (by show 0 + r.val = _; omega)
  have ec : (⟨0 + c.val, by omega⟩ : Fin 128) = c := Fin.ext (by show 0 + c.val = _; omega)
  refine (Eq.trans (lane_sums _ _ _ _ _ _ _ _ _ _ r c (fun n => sAt x12 R (1024 * ((i 1).val - 8) + n)) (x16 (ix2 R c)) ?_ ?_ ?_ ?_ ?_ ?_ ?_ ?_ ?_) ?_)
  · rw [ld_m x16 _ 0 0 rfl _ _ _ (by omega) (by omega), eR, ec]
  · exact (ld_s3 x12 i hi 0 _ rfl _ r c R hR).trans (by congr 2; simp)
  · exact ld_s3 x12 i hi 1 _ rfl _ r c R hR
  · exact ld_s3 x12 i hi 2 _ rfl _ r c R hR
  · exact ld_s3 x12 i hi 3 _ rfl _ r c R hR
  · exact ld_s3 x12 i hi 4 _ rfl _ r c R hR
  · exact ld_s3 x12 i hi 5 _ rfl _ r c R hR
  · exact ld_s3 x12 i hi 6 _ rfl _ r c R hR
  · exact ld_s3 x12 i hi 7 _ rfl _ r c R hR
  · rw [ld_m x17 _ 0 0 rfl _ _ _ (by omega) (by omega), eR, ec]

include hi in
theorem lanesHi (R : Fin 512) (r : Fin 256) (hR : R.val = 256 + r.val) (c : Fin 128) (inb inb' inb0 inb1 inb2 inb3 inb4 inb5 inb6 inb7) :
    k0_pay3 (F := Ideal) (View.ld (S := S512x128) (e' := .f32) (Val := Elt Ideal) x16 (Rect.unit ![256, 0] ![256, 128] inb))
      (k0_pay83 (View.ld (S := S512x128) (e' := .f32) (Val := Elt Ideal) x16 (Rect.unit ![256, 0] ![256, 128] inb)) (k0_pay74 (View.ld (S := S512x128) (e' := .f32) (Val := Elt Ideal) x16 (Rect.unit ![256, 0] ![256, 128] inb)) (View.ld (S := S512x128) (e' := .f32) (Val := Elt Ideal) x17 (Rect.unit ![256, 0] ![256, 128] inb')) (View.ld (S := S512x8192) (e' := .f32) (Val := Elt Ideal) x12 (Rect.unit (k0_off4 i 0#32) ![256, 128] inb0)) (View.ld (S := S512x8192) (e' := .f32) (Val := Elt Ideal) x12 (Rect.unit (k0_off4 i 128#32) ![256, 128] inb1)))
        (View.ld (S := S512x8192) (e' := .f32) (Val := Elt Ideal) x12 (Rect.unit (k0_off4 i 256#32) ![256, 128] inb2)) (View.ld (S := S512x8192) (e' := .f32) (Val := Elt Ideal) x12 (Rect.unit (k0_off4 i 384#32) ![256, 128] inb3)) (View.ld (S := S512x8192) (e' := .f32) (Val := Elt Ideal) x12 (Rect.unit (k0_off4 i 512#32) ![256, 128] inb4)) (View.ld (S := S512x8192) (e' := .f32) (Val := Elt Ideal) x12 (Rect.unit (k0_off4 i 640#32) ![256, 128] inb5)))
      (View.ld (S := S512x8192) (e' := .f32) (Val := Elt Ideal) x12 (Rect.unit (k0_off4 i 768#32) ![256, 128] inb6)) (View.ld (S := S512x8192) (e' := .f32) (Val := Elt Ideal) x12 (Rect.unit (k0_off4 i 896#32) ![256, 128] inb7)) (ix2 r c)
    = x17 (ix2 R c) + ∑ k ∈ Finset.range 8, pw (sAt x12 R (1024 * ((i 1).val - 8) + (128 * k + c.val))) (x16 (ix2 R c)) := by
  have eR : (⟨256 + r.val, by omega⟩ : Fin 512) = R := Fin.ext (by show 256 + r.val = _; omega)
  have ec : (⟨0 + c.val, by omega⟩ : Fin 128) = c := Fin.ext (by show 0 + c.val = _; omega)
  refine (Eq.trans (lane_sums' _ _ _ _ _ _ _ _ _ _ r c (fun n => sAt x12 R (1024 * ((i 1).val - 8) + n)) (x16 (ix2 R c)) ?_ ?_ ?_ ?_ ?_ ?_ ?_ ?_ ?_) ?_)
  · rw [ld_m x16 _ 256 0 rfl _ _ _ (by omega) (by omega), eR, ec]
  · exact (ld_s4 x12 i hi 0 _ rfl _ r c R hR).trans (by congr 2; simp)
  · exact ld_s4 x12 i hi 1 _ rfl _ r c R hR
  · exact ld_s4 x12 i hi 2 _ rfl _ r c R hR
  · exact ld_s4 x12 i hi 3 _ rfl _ r c R hR
  · exact ld_s4 x12 i hi 4 _ rfl _ r c R hR
  · exact ld_s4 x12 i hi 5 _ rfl _ r c R hR
  · exact ld_s4 x12 i hi 6 _ rfl _ r c R hR
  · exact ld_s4 x12 i hi 7 _ rfl _ r c R hR
  · rw [ld_m x17 _ 256 0 rfl _ _ _ (by omega) (by omega), eR, ec]

include hi in
theorem accLo (R : Fin 512) (r : Fin 256) (hR : R.val = r.val) (w : Fin 512) (hM : ∀ c c' : Fin 128, x16 (ix2 R c) = x16 (ix2 R c')) (inb inb' inbv inb0 inb1 inb2 inb3 inb4 inb5 inb6 inb7) :
    k0_pay68 (F := Ideal) (k0_pay49 x5 (View.ld (S := S1x8x1024) (e' := .f32) (Val := Elt Ideal) x6 (Rect.unit ![0, 0, 0] ![1, 4, 1024] inbv)))
      (View.ld (S := S512x128) (e' := .f32) (Val := Elt Ideal) x16 (Rect.unit ![0, 0] ![256, 128] inb)) (k0_pay52 (View.ld (S := S512x128) (e' := .f32) (Val := Elt Ideal) x16 (Rect.unit ![0, 0] ![256, 128] inb)) (View.ld (S := S512x8192) (e' := .f32) (Val := Elt Ideal) x12 (Rect.unit (k0_off3 i 0#32) ![256, 128] inb0)))
      (k0_pay56 (k0_pay53 (View.ld (S := S512x128) (e' := .f32) (Val := Elt Ideal) x16 (Rect.unit ![0, 0] ![256, 128] inb)) (View.ld (S := S512x8192) (e' := .f32) (Val := Elt Ideal) x12 (Rect.unit (k0_off3 i 128#32) ![256, 128] inb1))) (k0_pay54 (F := Ideal)))
      (k0_pay58 (View.ld (S := S512x128) (e' := .f32) (Val := Elt Ideal) x16 (Rect.unit ![0, 0] ![256, 128] inb)) (View.ld (S := S512x8192) (e' := .f32) (Val := Elt Ideal) x12 (Rect.unit (k0_off3 i 256#32) ![256, 128] inb2)))
      (k0_pay60 (View.ld (S := S512x128) (e' := .f32) (Val := Elt Ideal) x16 (Rect.unit ![0, 0] ![256, 128] inb)) (View.ld (S := S512x8192) (e' := .f32) (Val := Elt Ideal) x12 (Rect.unit (k0_off3 i 384#32) ![256, 128] inb3)))
      (k0_pay63 (View.ld (S := S512x128) (e' := .f32) (Val := Elt Ideal) x16 (Rect.unit ![0, 0] ![256, 128] inb)) (View.ld (S := S512x8192) (e' := .f32) (Val := Elt Ideal) x12 (Rect.unit (k0_off3 i 512#32) ![256, 128] inb4)))
      (View.ld (S := S512x8192) (e' := .f32) (Val := Elt Ideal) x12 (Rect.unit (k0_off3 i 640#32) ![256, 128] inb5)) (View.ld (S := S512x8192) (e' := .f32) (Val := Elt Ideal) x12 (Rect.unit (k0_off3 i 768#32) ![256, 128] inb6)) (View.ld (S := S512x8192) (e' := .f32) (Val := Elt Ideal) x12 (Rect.unit (k0_off3 i 896#32) ![256, 128] inb7))
      (View.ld (S := S512x512) (e' := .f32) (Val := Elt Ideal) x18 (Rect.unit ![0, 0] ![256, 512] inb')) (ix2 r w)
    = x18 (ix2 R w) + ∑ t : Fin 1024, pw (sAt x12 R (1024 * ((i 1).val - 8) + t.val)) (x16 (ix2 R 0)) * dq x5 x6 ⟨R.val / 256, by omega⟩ w t := by
  have eR : (⟨0 + r.val, by omega⟩ : Fin 512) = R := Fin.ext (by show 0 + r.val = _; omega)
  have ew : (⟨0 + w.val, by omega⟩ : Fin 512) = w := Fin.ext (by show 0 + w.val = _; omega)
  have eg : (⟨R.val / 256, by omega⟩ : Fin 2) = 0 := Fin.ext (by show R.val / 256 = 0; omega)
  refine (Eq.trans (acc_sums _ _ _ _ _ _ _ _ _ _ _ r w (fun n => sAt x12 R (1024 * ((i 1).val - 8) + n)) (x16 (ix2 R 0)) ?_ ?_ ?_ ?_ ?_ ?_ ?_ ?_ ?_) ?_)
  · intro c; rw [ld_m x16 _ 0 0 rfl _ _ _ (by omega) (by omega), eR]; exact hM _ _
  · intro c; exact (ld_s3 x12 i hi 0 _ rfl _ r c R hR).trans (by congr 2; simp)
  · intro c; exact ld_s3 x12 i hi 1 _ rfl _ r c R hR
  · intro c; exact ld_s3 x12 i hi 2 _ rfl _ r c R hR
  · intro c; exact ld_s3 x12 i hi 3 _ rfl _ r c R hR
  · intro c; exact ld_s3 x12 i hi 4 _ rfl _ r c R hR
  · intro c; exact ld_s3 x12 i hi 5 _ rfl _ r c R hR
  · intro c; exact ld_s3 x12 i hi 6 _ rfl _ r c R hR
  · intro c; exact ld_s3 x12 i hi 7 _ rfl _ r c R hR
  rw [ld_acc x18 _ 0 0 rfl _ _ _ (by omega) (by omega), eR, ew, eg]
  refine congrArg _ (Finset.sum_congr rfl fun t _ => ?_)
  rw [pay49_apply, deq_ld0]

include hi in
theorem accHi (R : Fin 512) (r : Fin 256) (hR : R.val = 256 + r.val) (w : Fin 512) (hM : ∀ c c' : Fin 128, x16 (ix2 R c) = x16 (ix2 R c')) (inb inb' inbv inb0 inb1 inb2 inb3 inb4 inb5 inb6 inb7) :
    k0_pay4 (F := Ideal) (k0_pay70 (k0_pay69 (k0_pay48 (F := Ideal) x5)) (View.ld (S := S1x8x1024) (e' := .f32) (Val := Elt Ideal) x6 (Rect.unit ![0, 4, 0] ![1, 4, 1024] inbv)))
      (View.ld (S := S512x128) (e' := .f32) (Val := Elt Ideal) x16 (Rect.unit ![256, 0] ![256, 128] inb)) (k0_pay72 (View.ld (S := S512x128) (e' := .f32) (Val := Elt Ideal) x16 (Rect.unit ![256, 0] ![256, 128] inb)) (View.ld (S := S512x8192) (e' := .f32) (Val := Elt Ideal) x12 (Rect.unit (k0_off4 i 0#32) ![256, 128] inb0)))
      (k0_pay75 (View.ld (S := S512x128) (e' := .f32) (Val := Elt Ideal) x16 (Rect.unit ![256, 0] ![256, 128] inb)) (View.ld (S := S512x8192) (e' := .f32) (Val := Elt Ideal) x12 (Rect.unit (k0_off4 i 128#32) ![256, 128] inb1)))
      (k0_pay77 (View.ld (S := S512x128) (e' := .f32) (Val := Elt Ideal) x16 (Rect.unit ![256, 0] ![256, 128] inb)) (View.ld (S := S512x8192) (e' := .f32) (Val := Elt Ideal) x12 (Rect.unit (k0_off4 i 256#32) ![256, 128] inb2)))
      (k0_pay79 (View.ld (S := S512x128) (e' := .f32) (Val := Elt Ideal) x16 (Rect.unit ![256, 0] ![256, 128] inb)) (View.ld (S := S512x8192) (e' := .f32) (Val := Elt Ideal) x12 (Rect.unit (k0_off4 i 384#32) ![256, 128] inb3)))
      (k0_pay81 (View.ld (S := S512x128) (e' := .f32) (Val := Elt Ideal) x16 (Rect.unit ![256, 0] ![256, 128] inb)) (View.ld (S := S512x8192) (e' := .f32) (Val := Elt Ideal) x12 (Rect.unit (k0_off4 i 512#32) ![256, 128] inb4)))
      (k0_pay84 (View.ld (S := S512x128) (e' := .f32) (Val := Elt Ideal) x16 (Rect.unit ![256, 0] ![256, 128] inb)) (View.ld (S := S512x8192) (e' := .f32) (Val := Elt Ideal) x12 (Rect.unit (k0_off4 i 640#32) ![256, 128] inb5)))
      (View.ld (S := S512x8192) (e' := .f32) (Val := Elt Ideal) x12 (Rect.unit (k0_off4 i 768#32) ![256, 128] inb6)) (View.ld (S := S512x8192) (e' := .f32) (Val := Elt Ideal) x12 (Rect.unit (k0_off4 i 896#32) ![256, 128] inb7))
      (View.ld (S := S512x512) (e' := .f32) (Val := Elt Ideal) x18 (Rect.unit ![256, 0] ![256, 512] inb')) (ix2 r w)
    = x18 (ix2 R w) + ∑ t : Fin 1024, pw (sAt x12 R (1024 * ((i 1).val - 8) + t.val)) (x16 (ix2 R 0)) * dq x5 x6 ⟨R.val / 256, by omega⟩ w t := by
  have eR : (⟨256 + r.val, by omega⟩ : Fin 512) = R := Fin.ext (by show 256 + r.val = _; omega)
  have ew : (⟨0 + w.val, by omega⟩ : Fin 512) = w := Fin.ext (by show 0 + w.val = _; omega)
  have eg : (⟨R.val / 256, by omega⟩ : Fin 2) = 1 := Fin.ext (by show R.val / 256 = 1; omega)
  refine (Eq.trans (acc_sums' _ _ _ _ _ _ _ _ _ _ _ r w (fun n => sAt x12 R (1024 * ((i 1).val - 8) + n)) (x16 (ix2 R 0)) ?_ ?_ ?_ ?_ ?_ ?_ ?_ ?_ ?_) ?_)
  · intro c; rw [ld_m x16 _ 256 0 rfl _ _ _ (by omega) (by omega), eR]; exact hM _ _
  · intro c; exact (ld_s4 x12 i hi 0 _ rfl _ r c R hR).trans (by congr 2; simp)
  · intro c; exact ld_s4 x12 i hi 1 _ rfl _ r c R hR
  · intro c; exact ld_s4 x12 i hi 2 _ rfl _ r c R hR
  · intro c; exact ld_s4 x12 i hi 3 _ rfl _ r c R hR
  · intro c; exact ld_s4 x12 i hi 4 _ rfl _ r c R hR
  · intro c; exact ld_s4 x12 i hi 5 _ rfl _ r c R hR
  · intro c; exact ld_s4 x12 i hi 6 _ rfl _ r c R hR
  · intro c; exact ld_s4 x12 i hi 7 _ rfl _ r c R hR
  rw [ld_acc x18 _ 256 0 rfl _ _ _ (by omega) (by omega), eR, ew, eg]
  refine congrArg _ (Finset.sum_congr rfl fun t _ => ?_)
  rw [pay70_apply, deq_ld1]

end Cert.KernelIdeal.Own

end
-- ==== Proof.Pays.lean ====
/-
  The row maximum, the weights of the new tokens and the output, read at an index.
-/
module

public import proofs.«01_k».proof.Proof.Lanes

@[expose] public section

set_option maxRecDepth 16384

noncomputable section

namespace Cert.KernelIdeal.Own

open Idealize.ShloMosaic Idealize.ShloMosaic.TcCoe Idealize.SL.Sem
open Cert.KernelIdeal Cert.KernelIdeal.Gen

/-- A row's maximum. -/
def rowMax (x : FVec Ideal S512x128 .f32) (r : Fin 512) : EReal := Finset.univ.sup fun c : Fin 128 => x (ix2 r c)

theorem rowMax_le (x : FVec Ideal S512x128 .f32) (r : Fin 512) (z : EReal) : rowMax x r ≤ z ↔ ∀ c : Fin 128, x (ix2 r c) ≤ z := by
  unfold rowMax; simp [Finset.sup_le_iff]

theorem pay93_apply (x : FVec Ideal S512x128 .f32) (r : Fin 512) (l : Fin 128) :
    k0_pay93 (F := Ideal) x (ix2 r l) = rowMax x r := by
  pointwise [k0_pay93, k0_pay92]
  rw [show Ideal.ofBits FTy.f32 4286578688#32 = ⊥ by simp [Ideal.ofBits, Ideal.ieee]]
  rfl

theorem pay95_apply (x s : FVec Ideal S512x128 .f32) (r : Fin 512) (l : Fin 128) :
    k0_pay95 (F := Ideal) x s (ix2 r l) = pw (s (ix2 r l)) (k0_pay93 (F := Ideal) x (ix2 r l)) := by
  pointwise [k0_pay95, k0_pay94, k0_pay93]
  rfl

theorem pay96_apply (x s : FVec Ideal S512x128 .f32) (v : FVec Ideal S128x512 .bf16) (r : Fin 512) (w : Fin 512) :
    k0_pay96 (F := Ideal) x s v (ix2 r w) = ∑ c : Fin 128, pw (s (ix2 r c)) (k0_pay93 (F := Ideal) x (ix2 r c)) * v (ix2 c w) := by
  pointwise [k0_pay96, k0_pay94, k0_pay93]
  rfl

theorem pay85_apply (l : FVec Ideal S512x128 .f32) (a : FVec Ideal S512x512 .f32) (r : Fin 512) (w : Fin 512) :
    k0_pay85 (F := Ideal) l a (ix2 r w) = Ideal.div (a (ix2 r w)) (∑ c : Fin 128, l (ix2 r c)) := by
  pointwise [k0_pay85]

/-- The floor quotient by four, as the words compute it. -/
def fd4 (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 4#32 0#32)) (Scalar.extui (Scalar.cmpi CmpIPredicate.slt 4#32 0#32))))
      (IntOp.cmpi CmpIPredicate.ne (IntOp.remsi ArithUnit.vector w 4#32) 0#32))
    (IntOp.subi (IntOp.divsi ArithUnit.vector w 4#32) 1#32)
    (IntOp.divsi ArithUnit.vector w 4#32)

theorem fd4_eq : ∀ w : Fin 512, fd4 (BitVec.ofNat 32 w.val) = BitVec.ofNat 32 (w.val / 4) := by decide +kernel

/-- The remainder by four, as the words compute it. -/
def fm4 (w : BitVec 32) : BitVec 32 :=
  Scalar.select
    (IntOp.andi
      (IntOp.xori
        (IntOp.cmpi CmpIPredicate.slt (IntOp.remsi ArithUnit.vector w (Scalar.select (Scalar.cmpi CmpIPredicate.eq 4#32 0#32) 1#32 4#32)) 0#32)
        (Scalar.cmpi CmpIPredicate.slt (Scalar.select (Scalar.cmpi CmpIPredicate.eq 4#32 0#32) 1#32 4#32) 0#32))
      (IntOp.cmpi CmpIPredicate.ne (IntOp.remsi ArithUnit.vector w (Scalar.select (Scalar.cmpi CmpIPredicate.eq 4#32 0#32) 1#32 4#32)) 0#32))
    (IntOp.addi (IntOp.remsi ArithUnit.vector w (Scalar.select (Scalar.cmpi CmpIPredicate.eq 4#32 0#32) 1#32 4#32)) (Scalar.select (Scalar.cmpi CmpIPredicate.eq 4#32 0#32) 1#32 4#32))
    (IntOp.remsi ArithUnit.vector w (Scalar.select (Scalar.cmpi CmpIPredicate.eq 4#32 0#32) 1#32 4#32))

theorem fm4_eq : ∀ w : Fin 512, fm4 (BitVec.ofNat 32 w.val) = BitVec.ofNat 32 (w.val % 4) := by decide +kernel

theorem cmpi_nat (a b : ℕ) (ha : a < 2 ^ 32) (hb : b < 2 ^ 32) :
    IntOp.cmpi CmpIPredicate.eq (BitVec.ofNat 32 a) (BitVec.ofNat 32 b) = if a = b then 1#1 else 0#1 := by
  by_cases h : a = b
  · subst h; simp [IntOp.cmpi]
  · have hne : BitVec.ofNat 32 a ≠ BitVec.ofNat 32 b := fun e => h (by
      have := congrArg BitVec.toNat e
      simp only [BitVec.toNat_ofNat] at this
      omega)
    rw [if_neg h]
    show BitVec.ofBool (BitVec.ofNat 32 a == BitVec.ofNat 32 b) = 0#1
    rw [beq_false_of_ne hne]; rfl

theorem rowHead (r w : Fin 512) : k0_pay86 (ix2 r w) = BitVec.ofNat 32 (r.val / 64) := by
  pointwise [k0_pay86]
  revert r
  decide +kernel

theorem pay90_apply (d : Fin 128) (w : Fin 512) : k0_pay90 (F := Ideal) (ix2 d w) = if w.val / 4 = d.val then 1 else 0 := by
  pointwise [k0_pay90]
  show FloatOps.sitofp (F := Ideal) FTy.f32 (BitVec.setWidth 32 (IntOp.cmpi CmpIPredicate.eq (fd4 (BitVec.ofNat 32 w.val)) (BitVec.ofNat 32 d.val))) = _
  rw [fd4_eq, cmpi_nat _ _ (by omega) (by omega)]
  split <;> simp [FloatOps.sitofp]

theorem pay5_apply (o : FVec Ideal S512x512 .bf16) (r : Fin 512) (d : Fin 128) :
    k0_pay5 (F := Ideal) (k0_pay90 (F := Ideal)) o k0_pay86 (Scalar.select (Scalar.cmpi .eq 4#32 0#32) 1#32 4#32) k0_pay87 k0_pay88 k0_pay89
      (Scalar.cmpi .slt (Scalar.select (Scalar.cmpi .eq 4#32 0#32) 1#32 4#32) 0#32) (ix3 0 r d)
      = o (ix2 r ⟨4 * d.val + r.val / 64 % 4, by omega⟩) := by
  pointwise [k0_pay5, k0_pay88, k0_pay89, k0_pay87]
  have e : ∀ x : Fin 512, Scalar.select (IntOp.cmpi CmpIPredicate.eq (fm4 (k0_pay86 (ix2 r x))) (fm4 (BitVec.ofNat 32 x.val)))
      (o (ix2 r x) * k0_pay90 (F := Ideal) (ix2 d x)) (0 : EReal)
      = if x = ⟨4 * d.val + r.val / 64 % 4, by omega⟩ then o (ix2 r x) else 0 := fun x => by
    rw [rowHead, fm4_eq ⟨r.val / 64, by omega⟩, fm4_eq, cmpi_nat _ _ (by dsimp only; omega) (by omega), pay90_apply]
    by_cases h1 : r.val / 64 % 4 = x.val % 4 <;> by_cases h2 : x.val / 4 = d.val
    · rw [if_pos h1, if_pos h2, if_pos (Fin.ext (by dsimp only; omega)), mul_one]; rfl
    · rw [if_pos h1, if_neg h2, if_neg (fun h => h2 (by rw [h]; dsimp only; omega)), mul_zero]; rfl
    · rw [if_neg h1, if_neg (c := x = _) (fun h => h1 (by rw [h]; dsimp only; omega))]; rfl
    · rw [if_neg h1, if_neg (c := x = _) (fun h => h1 (by rw [h]; dsimp only; omega))]; rfl
  refine (Finset.sum_congr rfl fun x _ => e x).trans ?_
  rw [Finset.sum_ite_eq' Finset.univ]; simp

end Cert.KernelIdeal.Own

end
-- ==== Proof.PaysA.lean ====
/-
  The payloads of a batch's first point, read at an index: the spread query, the quantised new keys and values, the new scores.
-/
module

public import proofs.«01_k».proof.Proof.Pays

@[expose] public section

set_option maxRecDepth 16384

noncomputable section

namespace Cert.KernelIdeal.Own

open Idealize.ShloMosaic Idealize.ShloMosaic.TcCoe Idealize.SL.Sem
open Cert.KernelIdeal Cert.KernelIdeal.Gen

/-- A row's quantiser scale: its largest magnitude over 127, or one when the row is zero. -/
def qs (f : Fin 128 → EReal) : EReal :=
  if (Finset.univ.sup fun d => FloatOps.absf (F := Ideal) (φ := .f32) (f d)) = 0 then 1
  else Ideal.div (Finset.univ.sup fun d => FloatOps.absf (F := Ideal) (φ := .f32) (f d)) (Ideal.ofBits .f32 1123942400#32)

/-- The quotient by the scale, rounded to the nearest integer (ties to even) and clipped to ±127. -/
def qr (f : Fin 128 → EReal) (d : Fin 128) : EReal :=
  min (Ideal.ofBits FTy.f32 1123942400#32) (max (Ideal.ofBits FTy.f32 3271426048#32) (Ideal.liftRound Ideal.roundHalfEven (Ideal.div (f d) (qs f))))

/-- A row's code. -/
def qc (f : Fin 128 → EReal) (d : Fin 128) : BitVec 8 := FloatOps.fptosi (F := Ideal) (φ := .f32) 8 (qr f d)

theorem fold_max {α : Type} (s : Finset α) (f : α → EReal) : Finset.fold max (Ideal.ofBits FTy.f32 4286578688#32) f s = s.sup f := by
  rw [show Ideal.ofBits FTy.f32 4286578688#32 = ⊥ by simp [Ideal.ofBits, Ideal.ieee]]
  rfl

theorem pay14_apply (x : FVec Ideal S1x32x128 .bf16) (n : Fin 32) : k0_pay14 (F := Ideal) x (ix2 n 0) = qs (fun d => x (ix3 0 n d)) := by
  pointwise [k0_pay14, k0_pay13]
  rw [fold_max]; rfl

theorem pay19_apply (x : FVec Ideal S1x32x128 .bf16) (n : Fin 32) : k0_pay19 (F := Ideal) x (ix2 n 0) = qs (fun d => x (ix3 0 n d)) := by
  pointwise [k0_pay19, k0_pay18]
  rw [fold_max]; rfl

theorem pay23_apply (x : FVec Ideal S1x32x128 .bf16) (n : Fin 32) : k0_pay23 (F := Ideal) (k0_pay14 x) (ix3 0 n 0) = qs (fun d => x (ix3 0 n d)) := by
  pointwise [k0_pay23]
  exact pay14_apply x n

theorem pay24_apply (x : FVec Ideal S1x32x128 .bf16) (n : Fin 32) : k0_pay24 (F := Ideal) x (ix3 0 n 0) = qs (fun d => x (ix3 0 n d)) := by
  pointwise [k0_pay24, k0_pay19, k0_pay18]
  rw [fold_max]; rfl

theorem pay17_apply (x : FVec Ideal S1x32x128 .bf16) (n : Fin 32) (d : Fin 128) :
    k0_pay17 (F := Ideal) (k0_pay15 (F := Ideal) x) (Scalar.ofBits .f32 0x42FE0000#32) k0_pay16 (ix2 n d) = qc (fun d => x (ix3 0 n d)) d := by
  pointwise [k0_pay17, k0_pay15, k0_pay16, k0_pay13]
  rw [pay14_apply]; rfl

theorem pay20_apply (x : FVec Ideal S1x32x128 .bf16) (n : Fin 32) (d : Fin 128) :
    k0_pay20 (F := Ideal) x (ix2 n d) = qc (fun d => x (ix3 0 n d)) d := by
  pointwise [k0_pay20, k0_pay18]
  rw [pay19_apply]; rfl

theorem pay21_apply (x : FVec Ideal S1x32x128 .bf16) (n : Fin 32) (d : Fin 128) :
    k0_pay21 (F := Ideal) (k0_pay15 (F := Ideal) x) (Scalar.ofBits .f32 0x42FE0000#32) k0_pay16 (ix3 0 n d) = qc (fun d => x (ix3 0 n d)) d := by
  pointwise [k0_pay21]
  exact pay17_apply x n d

theorem pay22_apply (x : FVec Ideal S1x32x128 .bf16) (n : Fin 32) (d : Fin 128) :
    k0_pay22 (F := Ideal) x (ix3 0 n d) = qc (fun d => x (ix3 0 n d)) d := by
  pointwise [k0_pay22]
  exact pay20_apply x n d

/-- The new keys or values as their codes and scales give them back, with rows past the 32nd zero. -/
def dqn (x : FVec Ideal S1x32x128 .bf16) (c : Fin 128) (d : Fin 128) : EReal :=
  if h : c.val < 32 then FloatOps.sitofp (F := Ideal) .bf16 (qc (fun d => x (ix3 0 ⟨c.val, h⟩ d)) d) * qs (fun d => x (ix3 0 ⟨c.val, h⟩ d)) else 0

theorem pay25_apply (x : FVec Ideal S1x32x128 .bf16) (c d : Fin 128) :
    k0_pay25 (F := Ideal) (k0_pay19 (F := Ideal) x) (k0_pay20 (F := Ideal) x) (ix2 c d) = dqn x c d := by
  pointwise [k0_pay25]
  unfold dqn
  split
  · rw [pay19_apply, pay20_apply]
  · rfl

theorem pay26_gen (q : FVec Ideal S1x512x128 .bf16) (s : FVec Ideal S32x1 .f32) (k : IVec S32x128 8) (r : Fin 512) (c : Fin 128) :
    k0_pay26 (F := Ideal) (k0_pay6 (F := Ideal) q) s k (ix2 r c)
      = ∑ d : Fin 128, q (ix3 0 r d) * (if h : c.val < 32 then FloatOps.sitofp (F := Ideal) .bf16 (k (ix2 ⟨c.val, h⟩ d)) * s (ix2 ⟨c.val, h⟩ 0) else 0) := by
  pointwise [k0_pay26, k0_pay6]

theorem pay26_apply (q : FVec Ideal S1x512x128 .bf16) (x : FVec Ideal S1x32x128 .bf16) (r : Fin 512) (c : Fin 128) :
    k0_pay26 (F := Ideal) (k0_pay6 (F := Ideal) q) (k0_pay14 (F := Ideal) x) (k0_pay17 (F := Ideal) (k0_pay15 (F := Ideal) x) (Scalar.ofBits .f32 0x42FE0000#32) k0_pay16) (ix2 r c)
      = ∑ d : Fin 128, q (ix3 0 r d) * dqn x c d := by
  rw [pay26_gen]
  refine Finset.sum_congr rfl fun d _ => congrArg _ ?_
  unfold dqn
  split
  · rw [pay14_apply, pay17_apply]
  · rfl

theorem pay91_apply (x : FVec Ideal S1x32x128 .bf16) (c : Fin 128) (w : Fin 512) :
    k0_pay91 (F := Ideal) (k0_pay39 (F := Ideal) k0_pay90 (k0_pay25 (F := Ideal) (k0_pay19 (F := Ideal) x) (k0_pay20 (F := Ideal) x))) (ix2 c w) = dqn x c ⟨w.val / 4, by omega⟩ := by
  pointwise [k0_pay91, k0_pay39]
  refine (Finset.sum_congr rfl fun d _ => (show _ = if d = ⟨w.val / 4, by omega⟩ then dqn x c d else 0 from ?_)).trans ?_
  · rw [pay25_apply, pay90_apply]
    by_cases h : w.val / 4 = d.val
    · rw [if_pos h, if_pos (Fin.ext h.symm), mul_one]
    · rw [if_neg h, if_neg (fun e => h (by rw [e])), mul_zero]
  · rw [Finset.sum_ite_eq' Finset.univ]; simp

/-- The query spread over the 512 columns: column `w` takes coordinate `w / 4` in the rows whose head is `w % 4` modulo four. -/
def qx (q : FVec Ideal S1x512x128 .bf16) (r w : Fin 512) : EReal :=
  if r.val / 64 % 4 = w.val % 4 then q (ix3 0 r ⟨w.val / 4, by omega⟩) else 0

theorem pay12_apply (q : FVec Ideal S1x512x128 .bf16) (r w : Fin 512) :
    k0_pay12 (F := Ideal) (k0_pay7 k0_pay90 q) k0_pay8 k0_pay9 k0_pay10 k0_pay11 (ix2 r w) = qx q r w := by
  pointwise [k0_pay12, k0_pay7, k0_pay8, k0_pay9, k0_pay10, k0_pay11, k0_pay6]
  refine (congrArg₂ (fun a b => Scalar.select (IntOp.cmpi CmpIPredicate.eq a b) (∑ d : Fin 128, q (ix3 0 r d) * k0_pay90 (F := Ideal) (ix2 d w)) (0 : EReal))
    (?_ : _ = BitVec.ofNat 32 (r.val / 64 % 4)) (?_ : _ = BitVec.ofNat 32 (w.val % 4))).trans ?_
  · clear q w; revert r; decide +kernel
  · clear q r; revert w; decide +kernel
  · rw [cmpi_nat _ _ (by omega) (by omega)]
    have e : (∑ d : Fin 128, q (ix3 0 r d) * k0_pay90 (F := Ideal) (ix2 d w)) = q (ix3 0 r ⟨w.val / 4, by omega⟩) := by
      refine (Finset.sum_congr rfl fun d _ => (show _ = if d = ⟨w.val / 4, by omega⟩ then q (ix3 0 r d) else 0 from ?_)).trans ?_
      · rw [pay90_apply]
        by_cases h : w.val / 4 = d.val
        · rw [if_pos h, if_pos (Fin.ext h.symm), mul_one]
        · rw [if_neg h, if_neg (fun e => h (by rw [e])), mul_zero]
      · rw [Finset.sum_ite_eq' Finset.univ]; simp
    rw [e]; unfold qx
    split <;> rfl

/-- New token row `c` (eight heads a token) is one the query row `r` (head, step, group) attends. -/
def vis (r : Fin 512) (c : Fin 128) : Prop := c.val < 32 ∧ c.val % 8 = r.val / 64 ∧ c.val / 8 ≤ r.val % 64 / 16

instance (r c) : Decidable (vis r c) := by unfold vis; infer_instance

/-- The masked scores of the new tokens. -/
def sn (q : FVec Ideal S1x512x128 .bf16) (x : FVec Ideal S1x32x128 .bf16) (r : Fin 512) (c : Fin 128) : EReal :=
  if vis r c then ∑ d : Fin 128, q (ix3 0 r d) * dqn x c d else ⊥

theorem pay31_apply (r : Fin 512) (c : Fin 128) :
    k0_pay31 (iota .tc S512x128 32 [0] iota_S512x128_d0_w32) k0_pay27 k0_pay28 64#32 k0_pay29 k0_pay30 (Scalar.extui (Scalar.cmpi .sgt 64#32 0#32)) 0#32 (ix2 r c)
      = IntOp.andi (if c.val < 32 then 1#1 else 0#1) (if c.val % 8 = r.val / 64 then 1#1 else 0#1) := by
  rw [← cmpi_nat _ _ (by omega) (by omega)]
  pointwise [k0_pay31, k0_pay27, k0_pay28, k0_pay29, k0_pay30]
  refine (congrArg₂ IntOp.andi ?_ (congrArg₂ (IntOp.cmpi CmpIPredicate.eq) ?_ ?_))
  · clear r; revert c; decide +kernel
  · clear r; revert c; decide +kernel
  · clear c; revert r; decide +kernel

theorem pay37_apply (a : FVec Ideal S512x128 .f32) (r : Fin 512) (c : Fin 128) :
    k0_pay37 (F := Ideal) a (k0_pay31 (iota .tc S512x128 32 [0] iota_S512x128_d0_w32) k0_pay27 k0_pay28 64#32 k0_pay29 k0_pay30 (Scalar.extui (Scalar.cmpi .sgt 64#32 0#32)) 0#32) (k0_pay32 (iota .tc S512x128 32 [1] iota_S512x128_d1_w32)) (Scalar.select (Scalar.cmpi .eq 64#32 0#32) 1#32 64#32) (k0_pay33 (iota .tc S512x128 32 [0] iota_S512x128_d0_w32)) (k0_pay34 (iota .tc S512x128 32 [0] iota_S512x128_d0_w32)) k0_pay35 (ix2 r c)
      = if vis r c then a (ix2 r c) else ⊥ := by
  pointwise [k0_pay37, k0_pay36]
  rw [pay31_apply, show Ideal.ofBits FTy.f32 4286578688#32 = ⊥ by simp [Ideal.ofBits, Ideal.ieee]]
  refine (congrArg₂ (fun u v => Scalar.select (IntOp.andi (IntOp.andi (if c.val < 32 then 1#1 else 0#1) (if c.val % 8 = r.val / 64 then 1#1 else 0#1)) (IntOp.cmpi CmpIPredicate.sle u v)) (a (ix2 r c)) (⊥ : EReal))
    (?_ : _ = BitVec.ofNat 32 (c.val / 8)) (?_ : _ = BitVec.ofNat 32 (r.val % 64 / 16))).trans ?_
  · clear a; pointwise [k0_pay32]; clear r; revert c; decide +kernel
  · clear a; pointwise [k0_pay33, k0_pay34, k0_pay35]; clear c; revert r; decide +kernel
  · have e : ∀ (u : Fin 16) (v : Fin 4), IntOp.cmpi CmpIPredicate.sle (BitVec.ofNat 32 u.val) (BitVec.ofNat 32 v.val) = if u.val ≤ v.val then 1#1 else 0#1 := by
      decide +kernel
    rw [e ⟨c.val / 8, by omega⟩ ⟨r.val % 64 / 16, by omega⟩]
    dsimp only
    unfold vis
    by_cases h1 : c.val < 32 <;> by_cases h2 : c.val % 8 = r.val / 64 <;> by_cases h3 : c.val / 8 ≤ r.val % 64 / 16 <;>
      simp only [h1, h2, h3, if_true, if_false, and_self, and_true, true_and, and_false, false_and] <;> rfl

end Cert.KernelIdeal.Own

end
-- ==== Proof.Inv.lean ====
/-
  What the kernel's scratch holds after each point of a batch, as formulas of the batch's blocks, and how one point's stores
  take one such state to the next.
-/
module

public import proofs.«01_k».proof.Proof.PaysA

@[expose] public section

set_option maxRecDepth 16384

noncomputable section

namespace Cert.KernelIdeal.Own

open Idealize.ShloMosaic Idealize.ShloMosaic.TcCoe Idealize.SL.Sem
open Cert.KernelIdeal Cert.KernelIdeal.Gen

/-- The scores of one tile, from the spread query. -/
def scq (q : FVec Ideal S1x512x128 .bf16) (k : IVec S1x1024x8x128 8) (ks : FVec Ideal S1x8x1024 .f32) (r : Fin 512) (t : Fin 1024) : EReal :=
  ∑ w : Fin 512, qx q r w * dq k ks ⟨r.val / 256, by omega⟩ w t

theorem sc_scq (Q : FVec Ideal S512x512 .bf16) (q k ks) (h : ∀ r w, Q (ix2 r w) = qx q r w) (r : Fin 512) (t : Fin 1024) : sc Q k ks r t = scq q k ks r t := by
  unfold sc scq
  exact Finset.sum_congr rfl fun w _ => by rw [h]

/-- A batch's blocks: the query, the new keys and values, and the cache's keys, key scales, values and value scales tile by tile. -/
structure Blk where
  q : FVec Ideal S1x512x128 .bf16
  kn : FVec Ideal S1x32x128 .bf16
  vn : FVec Ideal S1x32x128 .bf16
  kc : ℕ → IVec S1x1024x8x128 8
  ks : ℕ → FVec Ideal S1x8x1024 .f32
  vc : ℕ → IVec S1x1024x8x128 8
  vs : ℕ → FVec Ideal S1x8x1024 .f32

namespace Blk

variable (b : Blk)

/-- The score of query row `r` against cached token `t`. -/
def S (r : Fin 512) (t : ℕ) : EReal := scq b.q (b.kc (t / 1024)) (b.ks (t / 1024)) r ⟨t % 1024, Nat.mod_lt _ (by decide)⟩

/-- A row's largest score, the new tokens' included. -/
def MX (r : Fin 512) : EReal := max (Finset.univ.sup fun u : Fin 128 => sn b.q b.kn r u) (Finset.univ.sup fun t : Fin 8192 => b.S r t.val)

/-- The lanes' weight sums after `n` tiles of the value pass. -/
def LN (n : ℕ) (r : Fin 512) (u : Fin 128) : EReal :=
  pw (sn b.q b.kn r u) (b.MX r) + ∑ j ∈ Finset.range n, ∑ k ∈ Finset.range 8, pw (b.S r (1024 * j + (128 * k + u.val))) (b.MX r)

/-- The weighted value sums after `n` tiles of the value pass. -/
def AN (n : ℕ) (r w : Fin 512) : EReal :=
  (∑ c : Fin 128, pw (sn b.q b.kn r c) (b.MX r) * dqn b.vn c ⟨w.val / 4, by omega⟩)
    + ∑ j ∈ Finset.range n, ∑ t : Fin 1024, pw (b.S r (1024 * j + t.val)) (b.MX r) * dq (b.vc j) (b.vs j) ⟨r.val / 256, by omega⟩ w t

/-- The output row. -/
def Y (r : Fin 512) (d : Fin 128) : EReal := Ideal.div (b.AN 8 r ⟨4 * d.val + r.val / 64 % 4, by omega⟩) (∑ u : Fin 128, b.LN 8 r u)

/-- The scratch after `j` points of the batch. -/
structure St (j : ℕ) (x12 : FVec Ideal S512x8192 .f32) (x13 : FVec Ideal S512x512 .bf16) (x14 : FVec Ideal S512x128 .f32)
    (x15 : FVec Ideal S128x512 .bf16) (x16 x17 : FVec Ideal S512x128 .f32) (x18 : FVec Ideal S512x512 .f32) : Prop where
  h12 : ∀ (r : Fin 512) (t : Fin 8192), t.val < 1024 * j → x12 (ix2 r t) = b.S r t.val
  h13 : ∀ r w : Fin 512, x13 (ix2 r w) = qx b.q r w
  h14 : ∀ (r : Fin 512) (u : Fin 128), x14 (ix2 r u) = sn b.q b.kn r u
  h15 : ∀ (u : Fin 128) (w : Fin 512), x15 (ix2 u w) = dqn b.vn u ⟨w.val / 4, by omega⟩
  h16 : j ≤ 8 → ∀ (r : Fin 512) (u : Fin 128) (z : EReal), x16 (ix2 r u) ≤ z ↔ sn b.q b.kn r u ≤ z ∧ ∀ t : ℕ, t < 1024 * j → t % 128 = u.val → b.S r t ≤ z
  h16' : 9 ≤ j → ∀ (r : Fin 512) (u : Fin 128), x16 (ix2 r u) = b.MX r
  h17 : 9 ≤ j → ∀ (r : Fin 512) (u : Fin 128), x17 (ix2 r u) = b.LN (j - 8) r u
  h18 : 9 ≤ j → ∀ r w : Fin 512, x18 (ix2 r w) = b.AN (j - 8) r w

variable {b}

theorem S_tile (j : ℕ) (r : Fin 512) (u : Fin 1024) : b.S r (1024 * j + u.val) = scq b.q (b.kc j) (b.ks j) r u := by
  have h1 : (1024 * j + u.val) / 1024 = j := by omega
  have h2 : (⟨(1024 * j + u.val) % 1024, Nat.mod_lt _ (by decide)⟩ : Fin 1024) = u := Fin.ext (by show (1024 * j + u.val) % 1024 = u.val; omega)
  unfold S
  rw [h1, h2]

theorem step_A {x12 x13 x14 x15 x16 x17 x18}
    (h12 : ∀ (r : Fin 512) (u : Fin 1024) (t : Fin 8192), t.val = 1024 * 0 + u.val → x12 (ix2 r t) = scq b.q (b.kc 0) (b.ks 0) r u)
    (h13 : ∀ r w : Fin 512, x13 (ix2 r w) = qx b.q r w)
    (h14 : ∀ (r : Fin 512) (u : Fin 128), x14 (ix2 r u) = sn b.q b.kn r u)
    (h15 : ∀ (u : Fin 128) (w : Fin 512), x15 (ix2 u w) = dqn b.vn u ⟨w.val / 4, by omega⟩)
    (h16 : ∀ (r : Fin 512) (u : Fin 128) (z : EReal), x16 (ix2 r u) ≤ z ↔ sn b.q b.kn r u ≤ z ∧ ∀ t : Fin 1024, t.val % 128 = u.val → scq b.q (b.kc 0) (b.ks 0) r t ≤ z) :
    b.St 1 x12 x13 x14 x15 x16 x17 x18 where
  h12 r t ht := by
    rw [h12 r ⟨t.val, by omega⟩ t (by simp), ← S_tile]; simp
  h13 := h13
  h14 := h14
  h15 := h15
  h16 _ r u z := by
    rw [h16]
    refine and_congr_right fun _ => ⟨fun h t ht hu => ?_, fun h t hu => ?_⟩
    · have := h ⟨t, by omega⟩ hu
      rw [← S_tile] at this; simpa using this
    · rw [← S_tile]; exact h _ (by omega) (by omega)
  h16' h := absurd h (by decide)
  h17 h := absurd h (by decide)
  h18 h := absurd h (by decide)

theorem step_B {j : ℕ} (hj : j ≤ 7) {x12 x13 x14 x15 x16 x17 x18} {y12 y16} (h : b.St j x12 x13 x14 x15 x16 x17 x18)
    (h12o : ∀ (r : Fin 512) (t : Fin 8192), t.val < 1024 * j → y12 (ix2 r t) = x12 (ix2 r t))
    (h12 : ∀ (r : Fin 512) (u : Fin 1024) (t : Fin 8192), t.val = 1024 * j + u.val → y12 (ix2 r t) = sc x13 (b.kc j) (b.ks j) r u)
    (h16 : ∀ (r : Fin 512) (u : Fin 128) (z : EReal), y16 (ix2 r u) ≤ z ↔ x16 (ix2 r u) ≤ z ∧ ∀ t : Fin 1024, t.val % 128 = u.val → sc x13 (b.kc j) (b.ks j) r t ≤ z) :
    b.St (j + 1) y12 x13 x14 x15 y16 x17 x18 where
  h12 r t ht := by
    by_cases hl : t.val < 1024 * j
    · rw [h12o r t hl]; exact h.h12 r t hl
    · rw [h12 r ⟨t.val - 1024 * j, by omega⟩ t (by show t.val = 1024 * j + (t.val - 1024 * j); omega), sc_scq _ _ _ _ h.h13, ← S_tile]
      congr 1; show 1024 * j + (t.val - 1024 * j) = t.val; omega
  h13 := h.h13
  h14 := h.h14
  h15 := h.h15
  h16 _ r u z := by
    rw [h16, h.h16 (by omega), and_assoc]
    refine and_congr_right fun _ => ⟨fun ⟨h1, h2⟩ t ht hu => ?_, fun h1 => ⟨fun t ht hu => h1 t (by omega) hu, fun t hu => ?_⟩⟩
    · by_cases hl : t < 1024 * j
      · exact h1 t hl hu
      · have := h2 ⟨t - 1024 * j, by omega⟩ (by show (t - 1024 * j) % 128 = u.val; omega)
        rw [sc_scq _ _ _ _ h.h13, ← S_tile] at this
        rwa [show 1024 * j + (⟨t - 1024 * j, by omega⟩ : Fin 1024).val = t by show 1024 * j + (t - 1024 * j) = t; omega] at this
    · rw [sc_scq _ _ _ _ h.h13, ← S_tile]
      exact h1 _ (by omega) (by omega)
  h16' h := absurd h (by omega)
  h17 h := absurd h (by omega)
  h18 h := absurd h (by omega)

theorem rowMax_eq {x12 x13 x14 x15 x16 x17 x18} (h : b.St 8 x12 x13 x14 x15 x16 x17 x18) (r : Fin 512) : rowMax x16 r = b.MX r := by
  refine eq_of_forall_ge_iff fun z => ?_
  rw [rowMax_le]
  unfold MX
  rw [max_le_iff, Finset.sup_le_iff, Finset.sup_le_iff]
  constructor
  · intro h1
    exact ⟨fun u _ => ((h.h16 le_rfl r u z).1 (h1 u)).1,
      fun t _ => ((h.h16 le_rfl r ⟨t.val % 128, Nat.mod_lt _ (by decide)⟩ z).1 (h1 _)).2 t.val (by omega) rfl⟩
  · rintro ⟨h1, h2⟩ u
    exact (h.h16 le_rfl r u z).2 ⟨h1 u (Finset.mem_univ _), fun t ht _ => h2 ⟨t, by omega⟩ (Finset.mem_univ _)⟩

theorem sAt_S {j : ℕ} (hj : 8 ≤ j) {x12 x13 x14 x15 x16 x17 x18} (h : b.St j x12 x13 x14 x15 x16 x17 x18) (r : Fin 512) (t : ℕ) (ht : t < 8192) :
    sAt x12 r t = b.S r t := by
  rw [sAt_of _ _ _ ht]; exact h.h12 r ⟨t, ht⟩ (by show t < 1024 * j; omega)

theorem step_C {x12 x13 x14 x15 x16 x17 x18} {y16 y17 y18} (h : b.St 8 x12 x13 x14 x15 x16 x17 x18)
    (h16 : ∀ (r : Fin 512) (u : Fin 128), y16 (ix2 r u) = rowMax x16 r)
    (h17 : ∀ (r : Fin 512) (u : Fin 128), y17 (ix2 r u) = pw (x14 (ix2 r u)) (rowMax x16 r)
      + ∑ k ∈ Finset.range 8, pw (sAt x12 r (1024 * (8 - 8) + (128 * k + u.val))) (rowMax x16 r))
    (h18 : ∀ r u : Fin 512, y18 (ix2 r u) = (∑ c : Fin 128, pw (x14 (ix2 r c)) (rowMax x16 r) * x15 (ix2 c u))
      + ∑ t : Fin 1024, pw (sAt x12 r (1024 * (8 - 8) + t.val)) (rowMax x16 r) * dq (b.vc 0) (b.vs 0) ⟨r.val / 256, by omega⟩ u t) :
    b.St 9 x12 x13 x14 x15 y16 y17 y18 where
  h12 r t ht := h.h12 r t (by omega)
  h13 := h.h13
  h14 := h.h14
  h15 := h.h15
  h16 h := absurd h (by decide)
  h16' _ r u := by rw [h16, rowMax_eq h]
  h17 _ r u := by
    rw [h17, rowMax_eq h, h.h14]
    unfold LN
    rw [show 9 - 8 = 1 from rfl, Finset.sum_range_one]
    refine congrArg₂ (fun e f : EReal => e + f) rfl (Finset.sum_congr rfl fun k hk => ?_)
    have := Finset.mem_range.1 hk
    rw [sAt_S le_rfl h _ _ (by omega)]
  h18 _ r w := by
    rw [h18, rowMax_eq h]
    unfold AN
    rw [show 9 - 8 = 1 from rfl, Finset.sum_range_one]
    refine congrArg₂ (fun e f : EReal => e + f) (Finset.sum_congr rfl fun c _ => ?_) (Finset.sum_congr rfl fun t _ => ?_)
    · rw [h.h14, h.h15]
    · rw [sAt_S le_rfl h _ _ (by omega)]

theorem step_D17 {j : ℕ} (hj : 9 ≤ j) (hj' : j ≤ 15) {x12 x13 x14 x15 x16 x17 x18} (h : b.St j x12 x13 x14 x15 x16 x17 x18) (r : Fin 512) (u : Fin 128) :
    x17 (ix2 r u) + ∑ k ∈ Finset.range 8, pw (sAt x12 r (1024 * (j - 8) + (128 * k + u.val))) (x16 (ix2 r u)) = b.LN (j + 1 - 8) r u := by
  rw [h.h17 hj, h.h16' hj, show j + 1 - 8 = (j - 8) + 1 by omega]
  unfold LN
  rw [Finset.sum_range_succ _ (j - 8), ← add_assoc]
  refine congrArg₂ (fun e f : EReal => e + f) rfl (Finset.sum_congr rfl fun k hk => ?_)
  have := Finset.mem_range.1 hk
  rw [sAt_S (by omega) h _ _ (by omega)]

theorem step_D18 {j : ℕ} (hj : 9 ≤ j) (hj' : j ≤ 15) {x12 x13 x14 x15 x16 x17 x18} (h : b.St j x12 x13 x14 x15 x16 x17 x18) (r u : Fin 512) :
    x18 (ix2 r u) + ∑ t : Fin 1024, pw (sAt x12 r (1024 * (j - 8) + t.val)) (x16 (ix2 r 0)) * dq (b.vc (j - 8)) (b.vs (j - 8)) ⟨r.val / 256, by omega⟩ u t = b.AN (j + 1 - 8) r u := by
  rw [h.h18 hj, h.h16' hj, show j + 1 - 8 = (j - 8) + 1 by omega]
  unfold AN
  rw [Finset.sum_range_succ _ (j - 8), ← add_assoc]
  refine congrArg₂ (fun e f : EReal => e + f) rfl (Finset.sum_congr rfl fun t _ => ?_)
  rw [sAt_S (by omega) h _ _ (by omega)]

theorem step_D {j : ℕ} (hj : 9 ≤ j) (hj' : j ≤ 15) {x12 x13 x14 x15 x16 x17 x18} {y17 y18} (h : b.St j x12 x13 x14 x15 x16 x17 x18)
    (h17 : ∀ (r : Fin 512) (u : Fin 128), y17 (ix2 r u) = x17 (ix2 r u)
      + ∑ k ∈ Finset.range 8, pw (sAt x12 r (1024 * (j - 8) + (128 * k + u.val))) (x16 (ix2 r u)))
    (h18 : ∀ r u : Fin 512, y18 (ix2 r u) = x18 (ix2 r u)
      + ∑ t : Fin 1024, pw (sAt x12 r (1024 * (j - 8) + t.val)) (x16 (ix2 r 0)) * dq (b.vc (j - 8)) (b.vs (j - 8)) ⟨r.val / 256, by omega⟩ u t) :
    b.St (j + 1) x12 x13 x14 x15 x16 y17 y18 where
  h12 r t ht := h.h12 r t (by omega)
  h13 := h.h13
  h14 := h.h14
  h15 := h.h15
  h16 h := absurd h (by omega)
  h16' _ := h.h16' hj
  h17 _ r u := by rw [h17, step_D17 hj hj' h]
  h18 _ r w := by rw [h18, step_D18 hj hj' h]

theorem last_E {x12 x13 x14 x15 x16 x17 x18} (h : b.St 15 x12 x13 x14 x15 x16 x17 x18) (r : Fin 512) (d : Fin 128) :
    Ideal.div (x18 (ix2 r ⟨4 * d.val + r.val / 64 % 4, by omega⟩)
      + ∑ t : Fin 1024, pw (sAt x12 r (1024 * (15 - 8) + t.val)) (x16 (ix2 r 0)) * dq (b.vc 7) (b.vs 7) ⟨r.val / 256, by omega⟩ ⟨4 * d.val + r.val / 64 % 4, by omega⟩ t)
      (∑ u : Fin 128, (x17 (ix2 r u) + ∑ k ∈ Finset.range 8, pw (sAt x12 r (1024 * (15 - 8) + (128 * k + u.val))) (x16 (ix2 r u))))
      = b.Y r d := by
  unfold Y
  rw [step_D18 (by decide) le_rfl h]
  congr 1
  exact Finset.sum_congr rfl fun u _ => step_D17 (by decide) le_rfl h r u

end Blk

end Cert.KernelIdeal.Own

end
-- ==== Proof.ReadA.lean ====
/-
  What each buffer holds after the body has run at the first point of a batch, read at an index: the last store that covers
  the index, as a formula of what the body loaded.
-/
module

public import proofs.«01_k».proof.Proof.PiecesA
public import proofs.«01_k».proof.Proof.Inv
public import proofs.«01_k».proof.Proof.Words
public import Idealize.ShloMosaic.Lib.WritesUnit

@[expose] public section

set_option maxRecDepth 16384

noncomputable section

namespace Cert.KernelIdeal.Own

open Idealize.ShloMosaic Idealize.ShloMosaic.TcCoe Idealize.SL.Sem
open Cert.KernelIdeal Cert.KernelIdeal.Gen

variable (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : cond0_0 i) (hc1 : cond0_1 i) (hc2 : ¬cond0_2 i) (hc3 : ¬cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x12 : Vec Ideal S512x8192 .f32) (x17 : Vec Ideal S512x128 .f32) (x18 : Vec Ideal S512x512 .f32)

theorem A112 : pieces_A.sl.v112 (F := Ideal) c arg2 harg2 x0 = k0_pay12 (F := Ideal) (k0_pay7 (F := Ideal) k0_pay90 (View.readAt (Elt Ideal) arg2.view (Rect.unit (s := S1x512x128) ![0, 0, 0] S1x512x128.size inb_S1x512x128_S1x512x128_0_0_0).toLoadRect (harg2.unread x0))) k0_pay8 k0_pay9 k0_pay10 k0_pay11 := rfl

theorem A155 : pieces_A.sl.v155 (F := Ideal) c arg3 harg3 x1 = k0_pay21 (F := Ideal) (k0_pay15 (F := Ideal) (View.readAt (Elt Ideal) arg3.view (Rect.unit (s := S1x32x128) ![0, 0, 0] S1x32x128.size inb_S1x32x128_S1x32x128_0_0_0).toLoadRect (harg3.unread x1))) (Scalar.ofBits .f32 0x42FE0000#32) k0_pay16 := rfl

theorem A161 : pieces_A.sl.v161 (F := Ideal) c arg3 harg3 x1 = k0_pay23 (F := Ideal) (k0_pay14 (F := Ideal) (View.readAt (Elt Ideal) arg3.view (Rect.unit (s := S1x32x128) ![0, 0, 0] S1x32x128.size inb_S1x32x128_S1x32x128_0_0_0).toLoadRect (harg3.unread x1))) := rfl

theorem A158 : pieces_A.sl.v158 (F := Ideal) c arg4 harg4 x2 = k0_pay22 (F := Ideal) (View.readAt (Elt Ideal) arg4.view (Rect.unit (s := S1x32x128) ![0, 0, 0] S1x32x128.size inb_S1x32x128_S1x32x128_0_0_0).toLoadRect (harg4.unread x2)) := rfl

theorem A164 : pieces_A.sl.v164 (F := Ideal) c arg4 harg4 x2 = k0_pay24 (F := Ideal) (View.readAt (Elt Ideal) arg4.view (Rect.unit (s := S1x32x128) ![0, 0, 0] S1x32x128.size inb_S1x32x128_S1x32x128_0_0_0).toLoadRect (harg4.unread x2)) := rfl

theorem A298 : pieces_A.sl.v298 (F := Ideal) c arg4 harg4 x2 = k0_pay39 (F := Ideal) k0_pay90 (k0_pay25 (F := Ideal) (k0_pay19 (F := Ideal) (View.readAt (Elt Ideal) arg4.view (Rect.unit (s := S1x32x128) ![0, 0, 0] S1x32x128.size inb_S1x32x128_S1x32x128_0_0_0).toLoadRect (harg4.unread x2))) (k0_pay20 (F := Ideal) (View.readAt (Elt Ideal) arg4.view (Rect.unit (s := S1x32x128) ![0, 0, 0] S1x32x128.size inb_S1x32x128_S1x32x128_0_0_0).toLoadRect (harg4.unread x2)))) := rfl

theorem A294 : pieces_A.sl.v294 (F := Ideal) c arg2 harg2 arg3 harg3 x0 x1 = k0_pay37 (F := Ideal) (k0_pay26 (F := Ideal) (k0_pay6 (F := Ideal) (View.readAt (Elt Ideal) arg2.view (Rect.unit (s := S1x512x128) ![0, 0, 0] S1x512x128.size inb_S1x512x128_S1x512x128_0_0_0).toLoadRect (harg2.unread x0))) (k0_pay14 (F := Ideal) (View.readAt (Elt Ideal) arg3.view (Rect.unit (s := S1x32x128) ![0, 0, 0] S1x32x128.size inb_S1x32x128_S1x32x128_0_0_0).toLoadRect (harg3.unread x1))) (k0_pay17 (F := Ideal) (k0_pay15 (F := Ideal) (View.readAt (Elt Ideal) arg3.view (Rect.unit (s := S1x32x128) ![0, 0, 0] S1x32x128.size inb_S1x32x128_S1x32x128_0_0_0).toLoadRect (harg3.unread x1))) (Scalar.ofBits .f32 0x42FE0000#32) k0_pay16)) (k0_pay31 (iota .tc S512x128 32 [0] iota_S512x128_d0_w32) k0_pay27 k0_pay28 64#32 k0_pay29 k0_pay30 (Scalar.extui (Scalar.cmpi .sgt 64#32 0#32)) 0#32) (k0_pay32 (iota .tc S512x128 32 [1] iota_S512x128_d1_w32)) (Scalar.select (Scalar.cmpi .eq 64#32 0#32) 1#32 64#32) (k0_pay33 (iota .tc S512x128 32 [0] iota_S512x128_d0_w32)) (k0_pay34 (iota .tc S512x128 32 [0] iota_S512x128_d0_w32)) k0_pay35 := rfl

theorem A65 : pieces_A.sl.v65 (F := Ideal) c arg2 harg2 arg5 harg5 arg6 harg6 arg15 x0 x3 x4 = k0_pay41 (F := Ideal) (View.readAt (Elt Ideal) arg5.view (Rect.unit (s := S1x1024x8x128) ![0, 0, 0, 0] S1x1024x8x128.size inb_S1x1024x8x128_S1x1024x8x128_0_0_0_0).toLoadRect (harg5.unread x3)) (View.readAt (Elt Ideal) arg6.view (Rect.unit (s := S1x8x1024) ![0, 0, 0] S1x4x1024.size inb_S1x8x1024_S1x4x1024_0_0_0).toLoadRect (harg6.unread x4)) (View.readAt (Elt Ideal) arg15.view (Rect.unit (s := S512x512) ![0, 0] S256x512.size inb_S512x512_S256x512_0_0).toLoadRect (arg15.view.writes (Elt Ideal) arg15.view.junk (pieces_A.sl.H13_1 (F := Ideal) c arg2 harg2 x0))) := rfl

theorem A106 : pieces_A.sl.v106 (F := Ideal) c arg2 harg2 arg5 harg5 arg6 harg6 arg15 x0 x3 x4 = k0_pay45 (F := Ideal) (k0_pay40 (F := Ideal) (View.readAt (Elt Ideal) arg5.view (Rect.unit (s := S1x1024x8x128) ![0, 0, 0, 0] S1x1024x8x128.size inb_S1x1024x8x128_S1x1024x8x128_0_0_0_0).toLoadRect (harg5.unread x3))) (View.readAt (Elt Ideal) arg6.view (Rect.unit (s := S1x8x1024) ![0, 4, 0] S1x4x1024.size inb_S1x8x1024_S1x4x1024_0_4_0).toLoadRect (harg6.unread x4)) (View.readAt (Elt Ideal) arg15.view (Rect.unit (s := S512x512) ![256, 0] S256x512.size inb_S512x512_S256x512_256_0).toLoadRect (arg15.view.writes (Elt Ideal) arg15.view.junk (pieces_A.sl.H13_1 (F := Ideal) c arg2 harg2 x0))) := rfl

theorem readA_8 (f) (n : Fin 32) (d : Fin 128) : arg10.view.read (Elt Ideal) (arg10.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).1) (ix3 0 n d) = qc (fun d => x1 (ix3 0 n d)) d := by
  unfold pieces_A; dsimp only
  rw [View.read_writes_cons_unit_of_mem (heq := rfl) (x := ix3 0 n d) (hx := by
    intro a; match a with
    | ⟨0, _⟩ => simp
    | ⟨1, _⟩ => simp
    | ⟨2, _⟩ => simp)]
  rw [A155, pay21_apply, View.readAt_eq_ld, harg3.read_unread, View.ld_unit_zero (h := by decide)]

theorem readA_9 (f) (n : Fin 32) : arg11.view.read (Elt Ideal) (arg11.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.1) (ix3 0 n 0) = qs (fun d => x1 (ix3 0 n d)) := by
  unfold pieces_A; dsimp only
  rw [View.read_writes_cons_unit_of_mem (heq := rfl) (x := ix3 0 n 0) (hx := by
    intro a; match a with
    | ⟨0, _⟩ => simp
    | ⟨1, _⟩ => simp
    | ⟨2, _⟩ => simp)]
  rw [A161, pay23_apply, View.readAt_eq_ld, harg3.read_unread, View.ld_unit_zero (h := by decide)]

theorem readA_10 (f) (n : Fin 32) (d : Fin 128) : arg12.view.read (Elt Ideal) (arg12.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.1) (ix3 0 n d) = qc (fun d => x2 (ix3 0 n d)) d := by
  unfold pieces_A; dsimp only
  rw [View.read_writes_cons_unit_of_mem (heq := rfl) (x := ix3 0 n d) (hx := by
    intro a; match a with
    | ⟨0, _⟩ => simp
    | ⟨1, _⟩ => simp
    | ⟨2, _⟩ => simp)]
  rw [A158, pay22_apply, View.readAt_eq_ld, harg4.read_unread, View.ld_unit_zero (h := by decide)]

theorem readA_11 (f) (n : Fin 32) : arg13.view.read (Elt Ideal) (arg13.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.2.1) (ix3 0 n 0) = qs (fun d => x2 (ix3 0 n d)) := by
  unfold pieces_A; dsimp only
  rw [View.read_writes_cons_unit_of_mem (heq := rfl) (x := ix3 0 n 0) (hx := by
    intro a; match a with
    | ⟨0, _⟩ => simp
    | ⟨1, _⟩ => simp
    | ⟨2, _⟩ => simp)]
  rw [A164, pay24_apply, View.readAt_eq_ld, harg4.read_unread, View.ld_unit_zero (h := by decide)]

theorem A13 (f) (r w : Fin 512) : arg15.view.read (Elt Ideal) (arg15.view.writes (Elt Ideal) f (pieces_A.sl.H13_1 (F := Ideal) c arg2 harg2 x0)) (ix2 r w) = qx x0 r w := by
  unfold pieces_A.sl.H13_1
  rw [View.read_writes_cons_unit_of_mem (heq := rfl) (x := ix2 r w) (hx := by
    intro a; match a with
    | ⟨0, _⟩ => simp
    | ⟨1, _⟩ => simp)]
  rw [A112, pay12_apply, View.readAt_eq_ld, harg2.read_unread, View.ld_unit_zero (h := by decide)]

theorem readA_13 (f) (r w : Fin 512) : arg15.view.read (Elt Ideal) (arg15.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.2.2.2.1) (ix2 r w) = qx x0 r w := by
  unfold pieces_A; dsimp only
  exact A13 ..

theorem A294_apply (r : Fin 512) (u : Fin 128) : pieces_A.sl.v294 (F := Ideal) c arg2 harg2 arg3 harg3 x0 x1 (ix2 r u) = sn x0 x1 r u := by
  rw [A294, pay37_apply, pay26_apply]
  simp only [View.readAt_eq_ld, harg2.read_unread, harg3.read_unread]
  rw [View.ld_unit_zero (h := by decide), View.ld_unit_zero (h := by decide)]
  rfl

theorem readA_14 (f) (r : Fin 512) (u : Fin 128) : arg16.view.read (Elt Ideal) (arg16.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.2.2.2.2.1) (ix2 r u) = sn x0 x1 r u := by
  unfold pieces_A; dsimp only
  rw [View.read_writes_cons_unit_of_mem (heq := rfl) (x := ix2 r u) (hx := by
    intro a; match a with
    | ⟨0, _⟩ => simp
    | ⟨1, _⟩ => simp)]
  exact A294_apply ..

theorem readA_15 (f) (u : Fin 128) (w : Fin 512) : arg17.view.read (Elt Ideal) (arg17.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.2.2.2.2.2.1) (ix2 u w) = dqn x2 u ⟨w.val / 4, by omega⟩ := by
  unfold pieces_A; dsimp only
  rw [View.read_writes_cons_unit_of_mem (heq := rfl) (x := ix2 u w) (hx := by
    intro a; match a with
    | ⟨0, _⟩ => simp
    | ⟨1, _⟩ => simp)]
  rw [A298, pay91_apply, View.readAt_eq_ld, harg4.read_unread, View.ld_unit_zero (h := by decide)]

theorem A161m (f) (r : Fin 512) (u : Fin 128) : arg18.view.read (Elt Ideal) (arg18.view.writes (Elt Ideal) f (pieces_A.sl.H16_1 (F := Ideal) c arg2 harg2 arg3 harg3 x0 x1)) (ix2 r u) = sn x0 x1 r u := by
  unfold pieces_A.sl.H16_1
  rw [View.read_writes_cons_unit_of_mem (heq := rfl) (x := ix2 r u) (hx := by
    intro a; match a with
    | ⟨0, _⟩ => simp
    | ⟨1, _⟩ => simp)]
  exact A294_apply ..

theorem readA_12 (r : Fin 512) (u : Fin 1024) (t : Fin 8192) (ht : t.val = 1024 * (i 1).val + u.val) :
    arg14.view.read (Elt Ideal) (arg14.view.writes (Elt Ideal) (harg14.unread x12) (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.2.2.1) (ix2 r t) = scq x0 x3 x4 r u := by
  unfold pieces_A; dsimp only
  by_cases hr : r.val < 256
  · rw [View.read_writes_cons_unit_of_not_mem (heq := k0_off2_eq i) (a := 0) (ha := .inl (by simpa using hr)),
      View.read_writes_cons_unit_of_mem (heq := k0_off1_eq i) (x := ix2 ⟨r.val, hr⟩ u) (hx := by
        intro a; match a with
        | ⟨0, _⟩ => simp
        | ⟨1, _⟩ => simpa using ht)]
    rw [show pieces_A.sl.v70 (F := Ideal) c arg2 harg2 arg5 harg5 arg6 harg6 arg15 x0 x3 x4 = k0_pay42 (F := Ideal) (View.readAt (Elt Ideal) arg5.view (Rect.unit (s := S1x1024x8x128) ![0, 0, 0, 0] S1x1024x8x128.size inb_S1x1024x8x128_S1x1024x8x128_0_0_0_0).toLoadRect (harg5.unread x3)) (View.readAt (Elt Ideal) arg6.view (Rect.unit (s := S1x8x1024) ![0, 0, 0] S1x4x1024.size inb_S1x8x1024_S1x4x1024_0_0_0).toLoadRect (harg6.unread x4)) (View.readAt (Elt Ideal) arg15.view (Rect.unit (s := S512x512) ![0, 0] S256x512.size inb_S512x512_S256x512_0_0).toLoadRect (arg15.view.writes (Elt Ideal) arg15.view.junk (pieces_A.sl.H13_1 (F := Ideal) c arg2 harg2 x0))) from rfl]
    simp only [View.readAt_eq_ld, harg5.read_unread, harg6.read_unread]
    rw [View.ld_unit_zero (h := by decide)]
    unfold k0_pay42
    rw [shapeCast_self, sc_lo]
    exact sc_scq _ _ _ _ (A13 c arg2 harg2 arg15 x0 _) _ _
  · rw [View.read_writes_cons_unit_of_mem (heq := k0_off2_eq i) (x := ix2 ⟨r.val - 256, by omega⟩ u) (hx := by
        intro a; match a with
        | ⟨0, _⟩ => simp; omega
        | ⟨1, _⟩ => simpa using ht)]
    rw [show pieces_A.sl.v111_1 (F := Ideal) c arg2 harg2 arg5 harg5 arg6 harg6 arg15 x0 x3 x4 = k0_pay46 (F := Ideal) (k0_pay40 (F := Ideal) (View.readAt (Elt Ideal) arg5.view (Rect.unit (s := S1x1024x8x128) ![0, 0, 0, 0] S1x1024x8x128.size inb_S1x1024x8x128_S1x1024x8x128_0_0_0_0).toLoadRect (harg5.unread x3))) (View.readAt (Elt Ideal) arg6.view (Rect.unit (s := S1x8x1024) ![0, 4, 0] S1x4x1024.size inb_S1x8x1024_S1x4x1024_0_4_0).toLoadRect (harg6.unread x4)) (View.readAt (Elt Ideal) arg15.view (Rect.unit (s := S512x512) ![256, 0] S256x512.size inb_S512x512_S256x512_256_0).toLoadRect (arg15.view.writes (Elt Ideal) arg15.view.junk (pieces_A.sl.H13_1 (F := Ideal) c arg2 harg2 x0))) from rfl]
    simp only [View.readAt_eq_ld, harg5.read_unread, harg6.read_unread]
    rw [View.ld_unit_zero (h := by decide)]
    unfold k0_pay46
    rw [shapeCast_self, sc_hi]
    exact (congrArg (fun a => sc _ x3 x4 a u) (Fin.ext (by show 256 + (r.val - 256) = r.val; omega) : _ = r)).trans
      (sc_scq _ _ _ _ (A13 c arg2 harg2 arg15 x0 _) r u)

theorem readA_16 (f) (r : Fin 512) (u : Fin 128) (z : EReal) :
    arg18.view.read (Elt Ideal) (arg18.view.writes (Elt Ideal) f (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18).2.2.2.2.2.2.2.2.1) (ix2 r u) ≤ z ↔ sn x0 x1 r u ≤ z ∧ ∀ t : Fin 1024, t.val % 128 = u.val → scq x0 x3 x4 r t ≤ z := by
  unfold pieces_A; dsimp only
  have ht : u.val = 0 + u.val := (Nat.zero_add _).symm
  by_cases hr : r.val < 256
  · rw [View.read_writes_cons_unit_of_not_mem (heq := rfl) (a := 0) (ha := .inl (by simpa using hr)),
      show pieces_A.sl.H16_2 (F := Ideal) c arg2 harg2 arg3 harg3 arg5 harg5 arg6 harg6 arg15 arg18 x0 x1 x3 x4 = _ from (by unfold pieces_A.sl.H16_2; rfl),
      View.read_writes_cons_unit_of_mem (heq := rfl) (x := ix2 ⟨r.val, hr⟩ u) (hx := by
        intro a; match a with
        | ⟨0, _⟩ => simp
        | ⟨1, _⟩ => simpa using ht)]
    rw [show pieces_A.sl.v90 c arg2 harg2 arg3 harg3 arg5 harg5 arg6 harg6 arg15 arg18 x0 x1 x3 x4 = shapeCast S256x128 (pieces_A.sl.v87 c arg2 harg2 arg3 harg3 arg5 harg5 arg6 harg6 arg15 arg18 x0 x1 x3 x4) shapeCasts_S256x128_S256x128 from rfl, shapeCast_self, show pieces_A.sl.v87 c arg2 harg2 arg3 harg3 arg5 harg5 arg6 harg6 arg15 arg18 x0 x1 x3 x4 = laneMax (pieces_A.sl.v65 c arg2 harg2 arg5 harg5 arg6 harg6 arg15 x0 x3 x4) (View.readAt (Elt Ideal) arg18.view (Rect.unit (s := S512x128) ![0, 0] S256x128.size inb_S512x128_S256x128_0_0).toLoadRect (arg18.view.writes (Elt Ideal) arg18.view.junk (pieces_A.sl.H16_1 (F := Ideal) c arg2 harg2 arg3 harg3 x0 x1))) from rfl, laneMax_le, A65]
    simp only [View.readAt_eq_ld, harg5.read_unread, harg6.read_unread]
    rw [View.ld_unit_zero (h := by decide), ld_m _ _ 0 0 rfl _ _ _ (by dsimp only; omega) (by omega)]
    have er : (⟨0 + r.val, by omega⟩ : Fin 512) = r := Fin.ext (by show 0 + r.val = r.val; omega)
    have eu : (⟨0 + u.val, by omega⟩ : Fin 128) = u := Fin.ext (Nat.zero_add _)
    rw [er, eu]
    rw [A161m]
    exact and_congr_right fun _ => forall_congr' fun t => imp_congr_right fun _ => by rw [sc_lo, sc_scq _ _ _ _ (A13 c arg2 harg2 arg15 x0 _)]
  · rw [View.read_writes_cons_unit_of_mem (heq := rfl) (x := ix2 ⟨r.val - 256, by omega⟩ u) (hx := by
        intro a; match a with
        | ⟨0, _⟩ => simp; omega
        | ⟨1, _⟩ => simpa using ht)]
    rw [show pieces_A.sl.v131_1 c arg2 harg2 arg3 harg3 arg5 harg5 arg6 harg6 arg15 arg18 x0 x1 x3 x4 = shapeCast S256x128 (pieces_A.sl.v128_1 c arg2 harg2 arg3 harg3 arg5 harg5 arg6 harg6 arg15 arg18 x0 x1 x3 x4) shapeCasts_S256x128_S256x128 from rfl, shapeCast_self, show pieces_A.sl.v128_1 c arg2 harg2 arg3 harg3 arg5 harg5 arg6 harg6 arg15 arg18 x0 x1 x3 x4 = laneMax (pieces_A.sl.v106 c arg2 harg2 arg5 harg5 arg6 harg6 arg15 x0 x3 x4) (View.readAt (Elt Ideal) arg18.view (Rect.unit (s := S512x128) ![256, 0] S256x128.size inb_S512x128_S256x128_256_0).toLoadRect (arg18.view.writes (Elt Ideal) arg18.view.junk (pieces_A.sl.H16_2 (F := Ideal) c arg2 harg2 arg3 harg3 arg5 harg5 arg6 harg6 arg15 arg18 x0 x1 x3 x4))) from rfl, laneMax_le, A106]
    simp only [View.readAt_eq_ld, harg5.read_unread, harg6.read_unread]
    rw [View.ld_unit_zero (h := by decide), ld_m _ _ 256 0 rfl _ _ _ (by dsimp only; omega) (by omega)]
    have er : (⟨256 + (r.val - 256), by omega⟩ : Fin 512) = r := Fin.ext (by show 256 + (r.val - 256) = r.val; omega)
    have eu : (⟨0 + u.val, by omega⟩ : Fin 128) = u := Fin.ext (Nat.zero_add _)
    rw [er, eu]
    unfold pieces_A.sl.H16_2
    rw [View.read_writes_cons_unit_of_not_mem (heq := rfl) (a := 0) (ha := .inr (by simpa using hr))]
    rw [A161m]
    exact and_congr_right fun _ => forall_congr' fun t => imp_congr_right fun _ => by rw [sc_hi, er, sc_scq _ _ _ _ (A13 c arg2 harg2 arg15 x0 _)]

end Cert.KernelIdeal.Own

end
-- ==== Proof.Outs.lean ====
/-
  The five output blocks of a batch as formulas of its input blocks, and a buffer's ownership at what its contents read as.
-/
module

public import proofs.«01_k».proof.Proof.KernelIdealBase
public import proofs.«01_k».proof.Proof.PaysA
public import proofs.«01_k».proof.Proof.Inv
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- A buffer is owned at what its contents read as. -/
theorem owns_read_of (c : Dev nD) {sp : Space} {sh : Shape} {e : EltTy} (a : Memref sig .tc sp sh e)
    (f : Buf (Elt Ideal) (a.view.loc (c : Thread nD τ))) (X : Vec Ideal sh e) (h : a.view.read (Elt Ideal) f = X) :
    (a.view.loc (c : Thread nD τ) ↦[a.view.set]{fullShare} f : sProp 𝕄) ⊢ owns (c : Thread nD τ) a fullShare X := by
  unfold owns
  iintro H
  iexists f; isplitr
  swap; · iexact H
  ipureintro; exact h

/-- The codes of a batch's new rows. -/
def kcOf (x : FVec Ideal S1x32x128 .bf16) : IVec S1x32x128 8 := fun j => qc (fun d => x (ix3 0 (j 1) d)) (j 2)

/-- The scales of a batch's new rows. -/
def ksOf (x : FVec Ideal S1x32x128 .bf16) : FVec Ideal S1x32x1 .f32 := fun j => qs (fun d => x (ix3 0 (j 1) d))

/-- A batch's output block. -/
def yOf (b : Blk) : FVec Ideal S1x512x128 .bf16 := fun j => b.Y (j 1) (j 2)

theorem kcOf_ext {x : FVec Ideal S1x32x128 .bf16} {X : IVec S1x32x128 8} (h : ∀ (n : Fin 32) (d : Fin 128), X (ix3 0 n d) = qc (fun d => x (ix3 0 n d)) d) : X = kcOf x :=
  funext fun j => by
    rw [eq_ix3 j, show j 0 = (0 : Fin 1) from Subsingleton.elim (α := Fin 1) _ _]; exact h (j 1) (j 2)

theorem ksOf_ext {x : FVec Ideal S1x32x128 .bf16} {X : FVec Ideal S1x32x1 .f32} (h : ∀ n : Fin 32, X (ix3 0 n 0) = qs (fun d => x (ix3 0 n d))) : X = ksOf x :=
  funext fun j => by
    rw [eq_ix3 j, show j 0 = (0 : Fin 1) from Subsingleton.elim (α := Fin 1) _ _, show j 2 = (0 : Fin 1) from Subsingleton.elim (α := Fin 1) _ _]; exact h (j 1)

theorem yOf_ext {b : Blk} {X : FVec Ideal S1x512x128 .bf16} (h : ∀ (r : Fin 512) (d : Fin 128), X (ix3 0 r d) = b.Y r d) : X = yOf b :=
  funext fun j => by
    rw [eq_ix3 j, show j 0 = (0 : Fin 1) from Subsingleton.elim (α := Fin 1) _ _]; exact h (j 1) (j 2)

end Cert.KernelIdeal.Own
-- ==== Proof.StepA.lean ====
/-
  What the body does at the first point of a batch, as one step of the batch's state: from the scratch as the invariant has it
  before the point to the scratch as the invariant has it after the point.
-/
module

public import proofs.«01_k».proof.Proof.ReadA
public import proofs.«01_k».proof.Proof.Outs
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

set_option maxHeartbeats 1600000 in
/-- What the body does at the first point of a batch. -/
theorem vrun_A (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : cond0_0 i) (hc1 : cond0_1 i) (hc2 : ¬cond0_2 i) (hc3 : ¬cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (b : Blk) (hj : (i 1).val = 0) (h0 : x0 = b.q) (h1 : x1 = b.kn) (h2 : x2 = b.vn) (h3 : x3 = b.kc 0) (h4 : x4 = b.ks 0)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (kcOf b.kn) ∗ owns (c : Thread nD τ) arg11 fullShare (ksOf b.kn) ∗ owns (c : Thread nD τ) arg12 fullShare (kcOf b.vn) ∗ owns (c : Thread nD τ) arg13 fullShare (ksOf b.vn) ∗ (∃ y12 y13 y14 y15 y16 y17 y18, ⌜b.St 1 y12 y13 y14 y15 y16 y17 y18⌝ ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18)) -∗ K ⟨⟩))
      ⊢ wp frame (wpE defs₀ Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, ⟨%x12, H12⟩, ⟨%x13, H13⟩, ⟨%x14, H14⟩, ⟨%x15, H15⟩, ⟨%x16, H16⟩, ⟨%x17, H17⟩, ⟨%x18, H18⟩, Hk⟩
  have step : ∃ p, p = (pieces_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x12 x17 x18) := ⟨_, rfl⟩
  obtain ⟨p, hp⟩ := step
  have hst2 : ∀ f13, ∀ f14, ∀ f15, ∀ f16, b.St 1 (arg14.view.read (Elt Ideal) (arg14.view.writes (Elt Ideal) (harg14.unread x12) p.2.2.2.2.1)) (arg15.view.read (Elt Ideal) (arg15.view.writes (Elt Ideal) f13 p.2.2.2.2.2.1)) (arg16.view.read (Elt Ideal) (arg16.view.writes (Elt Ideal) f14 p.2.2.2.2.2.2.1)) (arg17.view.read (Elt Ideal) (arg17.view.writes (Elt Ideal) f15 p.2.2.2.2.2.2.2.1)) (arg18.view.read (Elt Ideal) (arg18.view.writes (Elt Ideal) f16 p.2.2.2.2.2.2.2.2.1)) x17 x18 := by
    rw [hp]
    intro _ _ _ _
    refine Blk.step_A ?_ (fun r w => ?_) (fun r u => ?_) (fun u w => ?_) (fun r u z => ?_)
    · exact fun r u t ht => (readA_12 (ht := by rw [hj]; exact ht) ..).trans (by rw [h0, h3, h4])
    · exact (readA_13 ..).trans (by rw [h0])
    · exact (readA_14 ..).trans (by rw [h0, h1])
    · exact (readA_15 ..).trans (by rw [h2])
    · exact (readA_16 ..).trans (by rw [h0, h1, h3, h4])
  have o8 : ∀ f8, (arg10.view.read (Elt Ideal) (arg10.view.writes (Elt Ideal) f8 p.1)) = kcOf b.kn := by
    intro _; rw [hp, ← h1]; exact kcOf_ext fun n d => readA_8 ..
  have o9 : ∀ f9, (arg11.view.read (Elt Ideal) (arg11.view.writes (Elt Ideal) f9 p.2.1)) = ksOf b.kn := by
    intro _; rw [hp, ← h1]; exact ksOf_ext fun n => readA_9 ..
  have o10 : ∀ f10, (arg12.view.read (Elt Ideal) (arg12.view.writes (Elt Ideal) f10 p.2.2.1)) = kcOf b.vn := by
    intro _; rw [hp, ← h2]; exact kcOf_ext fun n d => readA_10 ..
  have o11 : ∀ f11, (arg13.view.read (Elt Ideal) (arg13.view.writes (Elt Ideal) f11 p.2.2.2.1)) = ksOf b.vn := by
    intro _; rw [hp, ← h2]; exact ksOf_ext fun n => readA_11 ..
  clear hp
  iapply p.2.2.2.2.2.2.2.2.2 E _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; iexact H13
  isplitl [H14]
  · iexists _; iexact H14
  isplitl [H15]
  · iexists _; iexact H15
  isplitl [H16]
  · iexists _; iexact H16
  isplitl [H17]
  · iexact H17
  isplitl [H18]
  · iexact H18
  iintro ⟨H0, H1, H2, H3, H4, H5, H6, H7, ⟨%f8, H8⟩, ⟨%f9, H9⟩, ⟨%f10, H10⟩, ⟨%f11, H11⟩, H12, ⟨%f13, H13⟩, ⟨%f14, H14⟩, ⟨%f15, H15⟩, ⟨%f16, H16⟩, H17, H18⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iapply (owns_read_of c arg10 _ _ (o8 f8)); iexact H8
  isplitl [H9]
  · iapply (owns_read_of c arg11 _ _ (o9 f9)); iexact H9
  isplitl [H10]
  · iapply (owns_read_of c arg12 _ _ (o10 f10)); iexact H10
  isplitl [H11]
  · iapply (owns_read_of c arg13 _ _ (o11 f11)); iexact H11
  iexists (arg14.view.read (Elt Ideal) (arg14.view.writes (Elt Ideal) (harg14.unread x12) p.2.2.2.2.1)), (arg15.view.read (Elt Ideal) (arg15.view.writes (Elt Ideal) f13 p.2.2.2.2.2.1)), (arg16.view.read (Elt Ideal) (arg16.view.writes (Elt Ideal) f14 p.2.2.2.2.2.2.1)), (arg17.view.read (Elt Ideal) (arg17.view.writes (Elt Ideal) f15 p.2.2.2.2.2.2.2.1)), (arg18.view.read (Elt Ideal) (arg18.view.writes (Elt Ideal) f16 p.2.2.2.2.2.2.2.2.1)), x17, x18
  isplitr
  · ipureintro; exact hst2 f13 f14 f15 f16
  isplitl [H12]
  · iapply (owns_read_of c arg14 _ _ rfl); iexact H12
  isplitl [H13]
  · iapply (owns_read_of c arg15 _ _ rfl); iexact H13
  isplitl [H14]
  · iapply (owns_read_of c arg16 _ _ rfl); iexact H14
  isplitl [H15]
  · iapply (owns_read_of c arg17 _ _ rfl); iexact H15
  isplitl [H16]
  · iapply (owns_read_of c arg18 _ _ rfl); iexact H16
  isplitl [H17]
  · iexact H17
  iexact H18

end Cert.KernelIdeal.Own
-- ==== Proof.PiecesB.lean ====
/-
  The body run as a whole at a later point of the score pass (case B of its conditionals), with what it writes: the pieces that each buffer it
  stores into ends with are found by the run.
-/
module

public import proofs.«01_k».proof.Proof.PiecesA

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case B and the pieces it writes. -/
noncomputable def pieces_B (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : cond0_1 i) (hc2 : ¬cond0_2 i) (hc3 : ¬cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (x7 : Vec F S1x512x128 .bf16) (x8 : Vec F S1x32x128 .i8) (x9 : Vec F S1x32x1 .f32) (x10 : Vec F S1x32x128 .i8) (x11 : Vec F S1x32x1 .f32) (x12 : Vec F S512x8192 .f32) (x13 : Vec F S512x512 .bf16) (x14 : Vec F S512x128 .f32) (x15 : Vec F S128x512 .bf16) (x16 : Vec F S512x128 .f32) (x17 : Vec F S512x128 .f32) (x18 : Vec F S512x512 .f32) :
    Σ' (L12 : List (View.Piece (Elt F) S512x8192 .f32)), { L16 : List (View.Piece (Elt F) S512x128 .f32) //
      ∀ (E : Set ℕ) (K : PUnit → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (arg14.view.loc (c : Thread nD τ) ↦[arg14.view.set]{fullShare} arg14.view.writes (Elt F) (harg14.unread x12) L12) ∗ owns (c : Thread nD τ) arg15 fullShare x13 ∗ owns (c : Thread nD τ) arg16 fullShare x14 ∗ owns (c : Thread nD τ) arg17 fullShare x15 ∗ (arg18.view.loc (c : Thread nD τ) ↦[arg18.view.set]{fullShare} arg18.view.writes (Elt F) (harg18.unread x16) L16) ∗ owns (c : Thread nD τ) arg19 fullShare x17 ∗ owns (c : Thread nD τ) arg20 fullShare x18) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0__attention_kernel_eq_skeleton]; unfold cc0__attention_kernel_skel
    simp only [k0_part15_eq_skeleton, k0_part8_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexact H16
    isplitl [H17]
    · iexists _; isplitr; · ipureintro; exact harg19.read_unread _
      iexact H17
    iexists _; isplitr; · ipureintro; exact harg20.read_unread _
    iexact H18

end Cert.KernelIdeal.Own

end
-- ==== Proof.ReadB.lean ====
/-
  What each buffer holds after the body has run at a later point of the score pass, read at an index: the last store that covers
  the index, as a formula of what the body loaded.
-/
module

public import proofs.«01_k».proof.Proof.PiecesB
public import proofs.«01_k».proof.Proof.Words
public import Idealize.ShloMosaic.Lib.WritesUnit

@[expose] public section

set_option maxRecDepth 16384

noncomputable section

namespace Cert.KernelIdeal.Own

open Idealize.ShloMosaic Idealize.ShloMosaic.TcCoe Idealize.SL.Sem
open Cert.KernelIdeal Cert.KernelIdeal.Gen

variable (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : cond0_1 i) (hc2 : ¬cond0_2 i) (hc3 : ¬cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32)

theorem readB_12_old (r : Fin 512) (t : Fin 8192) (ht : t.val < 1024 * (i 1).val) :
    arg14.view.read (Elt Ideal) (arg14.view.writes (Elt Ideal) (harg14.unread x12) (pieces_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18).1) (ix2 r t) = x12 (ix2 r t) := by
  unfold pieces_B; dsimp only
  rw [View.read_writes_cons_unit_of_not_mem (heq := k0_off2_eq i) (a := 1) (ha := .inl (by simpa using ht)),
    View.read_writes_cons_unit_of_not_mem (heq := k0_off1_eq i) (a := 1) (ha := .inl (by simpa using ht))]
  exact congrFun (harg14.read_unread _) _

theorem readB_12_new (r : Fin 512) (u : Fin 1024) (t : Fin 8192) (ht : t.val = 1024 * (i 1).val + u.val) :
    arg14.view.read (Elt Ideal) (arg14.view.writes (Elt Ideal) (harg14.unread x12) (pieces_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18).1) (ix2 r t) = sc x13 x3 x4 r u := by
  unfold pieces_B; dsimp only
  by_cases hr : r.val < 256
  · rw [View.read_writes_cons_unit_of_not_mem (heq := k0_off2_eq i) (a := 0) (ha := .inl (by simpa using hr)),
      View.read_writes_cons_unit_of_mem (heq := k0_off1_eq i) (x := ix2 ⟨r.val, hr⟩ u) (hx := by
        intro a; match a with
        | ⟨0, _⟩ => simp
        | ⟨1, _⟩ => simpa using ht)]
    refine Eq.trans (congrFun (show _ = k0_pay42 (F := Ideal) (View.readAt (Elt Ideal) arg5.view (Rect.unit (s := S1x1024x8x128) ![0, 0, 0, 0] S1x1024x8x128.size inb_S1x1024x8x128_S1x1024x8x128_0_0_0_0).toLoadRect (harg5.unread x3)) (View.readAt (Elt Ideal) arg6.view (Rect.unit (s := S1x8x1024) ![0, 0, 0] S1x4x1024.size inb_S1x8x1024_S1x4x1024_0_0_0).toLoadRect (harg6.unread x4)) (View.readAt (Elt Ideal) arg15.view (Rect.unit (s := S512x512) ![0, 0] S256x512.size inb_S512x512_S256x512_0_0).toLoadRect (harg15.unread x13)) from rfl) _) ?_
    simp only [View.readAt_eq_ld, harg5.read_unread, harg6.read_unread, harg15.read_unread]
    rw [View.ld_unit_zero (h := by decide)]
    unfold k0_pay42
    rw [shapeCast_self, sc_lo]
  · rw [View.read_writes_cons_unit_of_mem (heq := k0_off2_eq i) (x := ix2 ⟨r.val - 256, by omega⟩ u) (hx := by
        intro a; match a with
        | ⟨0, _⟩ => simp; omega
        | ⟨1, _⟩ => simpa using ht)]
    refine Eq.trans (congrFun (show _ = k0_pay46 (F := Ideal) (k0_pay40 (F := Ideal) (View.readAt (Elt Ideal) arg5.view (Rect.unit (s := S1x1024x8x128) ![0, 0, 0, 0] S1x1024x8x128.size inb_S1x1024x8x128_S1x1024x8x128_0_0_0_0).toLoadRect (harg5.unread x3))) (View.readAt (Elt Ideal) arg6.view (Rect.unit (s := S1x8x1024) ![0, 4, 0] S1x4x1024.size inb_S1x8x1024_S1x4x1024_0_4_0).toLoadRect (harg6.unread x4)) (View.readAt (Elt Ideal) arg15.view (Rect.unit (s := S512x512) ![256, 0] S256x512.size inb_S512x512_S256x512_256_0).toLoadRect (harg15.unread x13)) from rfl) _) ?_
    simp only [View.readAt_eq_ld, harg5.read_unread, harg6.read_unread, harg15.read_unread]
    rw [View.ld_unit_zero (h := by decide)]
    unfold k0_pay46
    rw [shapeCast_self, sc_hi]
    congr 1; exact Fin.ext (by show 256 + (r.val - 256) = r.val; omega)

theorem B65 : pieces_B.sl.v65 (F := Ideal) c arg5 harg5 arg6 harg6 arg15 harg15 x3 x4 x13 = k0_pay41 (F := Ideal) (View.readAt (Elt Ideal) arg5.view (Rect.unit (s := S1x1024x8x128) ![0, 0, 0, 0] S1x1024x8x128.size inb_S1x1024x8x128_S1x1024x8x128_0_0_0_0).toLoadRect (harg5.unread x3)) (View.readAt (Elt Ideal) arg6.view (Rect.unit (s := S1x8x1024) ![0, 0, 0] S1x4x1024.size inb_S1x8x1024_S1x4x1024_0_0_0).toLoadRect (harg6.unread x4)) (View.readAt (Elt Ideal) arg15.view (Rect.unit (s := S512x512) ![0, 0] S256x512.size inb_S512x512_S256x512_0_0).toLoadRect (harg15.unread x13)) := rfl

theorem B106 : pieces_B.sl.v106 (F := Ideal) c arg5 harg5 arg6 harg6 arg15 harg15 x3 x4 x13 = k0_pay45 (F := Ideal) (k0_pay40 (F := Ideal) (View.readAt (Elt Ideal) arg5.view (Rect.unit (s := S1x1024x8x128) ![0, 0, 0, 0] S1x1024x8x128.size inb_S1x1024x8x128_S1x1024x8x128_0_0_0_0).toLoadRect (harg5.unread x3))) (View.readAt (Elt Ideal) arg6.view (Rect.unit (s := S1x8x1024) ![0, 4, 0] S1x4x1024.size inb_S1x8x1024_S1x4x1024_0_4_0).toLoadRect (harg6.unread x4)) (View.readAt (Elt Ideal) arg15.view (Rect.unit (s := S512x512) ![256, 0] S256x512.size inb_S512x512_S256x512_256_0).toLoadRect (harg15.unread x13)) := rfl

theorem readB_16 (r : Fin 512) (u : Fin 128) (z : EReal) :
    arg18.view.read (Elt Ideal) (arg18.view.writes (Elt Ideal) (harg18.unread x16) (pieces_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18).2.1) (ix2 r u) ≤ z ↔ x16 (ix2 r u) ≤ z ∧ ∀ t : Fin 1024, t.val % 128 = u.val → sc x13 x3 x4 r t ≤ z := by
  unfold pieces_B; dsimp only
  have ht : u.val = 0 + u.val := (Nat.zero_add _).symm
  have e : ∀ L R : EReal, L = R → ((L ≤ z) ↔ (R ≤ z)) := fun _ _ h => h ▸ Iff.rfl
  by_cases hr : r.val < 256
  · rw [View.read_writes_cons_unit_of_not_mem (heq := rfl) (a := 0) (ha := .inl (by simpa using hr)),
      View.read_writes_cons_unit_of_mem (heq := rfl) (x := ix2 ⟨r.val, hr⟩ u) (hx := by
        intro a; match a with
        | ⟨0, _⟩ => simp
        | ⟨1, _⟩ => simpa using ht)]
    rw [show pieces_B.sl.v90 c arg5 harg5 arg6 harg6 arg15 harg15 arg18 harg18 x3 x4 x13 x16 = shapeCast S256x128 (pieces_B.sl.v87 c arg5 harg5 arg6 harg6 arg15 harg15 arg18 harg18 x3 x4 x13 x16) shapeCasts_S256x128_S256x128 from rfl, shapeCast_self, show pieces_B.sl.v87 c arg5 harg5 arg6 harg6 arg15 harg15 arg18 harg18 x3 x4 x13 x16 = laneMax (pieces_B.sl.v65 c arg5 harg5 arg6 harg6 arg15 harg15 x3 x4 x13) (View.readAt (Elt Ideal) arg18.view (Rect.unit (s := S512x128) ![0, 0] S256x128.size inb_S512x128_S256x128_0_0).toLoadRect (harg18.unread x16)) from rfl, laneMax_le, B65]
    simp only [View.readAt_eq_ld, harg5.read_unread, harg6.read_unread, harg15.read_unread, harg18.read_unread]
    rw [View.ld_unit_zero (h := by decide), ld_m x16 _ 0 0 rfl _ _ _ (by dsimp only; omega) (by omega)]
    have er : (⟨0 + r.val, by omega⟩ : Fin 512) = r := Fin.ext (by show 0 + r.val = r.val; omega)
    have eu : (⟨0 + u.val, by omega⟩ : Fin 128) = u := Fin.ext (Nat.zero_add _)
    rw [er, eu]
    exact and_congr_right fun _ => forall_congr' fun t => imp_congr_right fun _ => by rw [sc_lo]
  · rw [View.read_writes_cons_unit_of_mem (heq := rfl) (x := ix2 ⟨r.val - 256, by omega⟩ u) (hx := by
        intro a; match a with
        | ⟨0, _⟩ => simp; omega
        | ⟨1, _⟩ => simpa using ht)]
    rw [show pieces_B.sl.v131 c arg5 harg5 arg6 harg6 arg15 harg15 arg18 harg18 x3 x4 x13 x16 = shapeCast S256x128 (pieces_B.sl.v128 c arg5 harg5 arg6 harg6 arg15 harg15 arg18 harg18 x3 x4 x13 x16) shapeCasts_S256x128_S256x128 from rfl, shapeCast_self, show pieces_B.sl.v128 c arg5 harg5 arg6 harg6 arg15 harg15 arg18 harg18 x3 x4 x13 x16 = laneMax (pieces_B.sl.v106 c arg5 harg5 arg6 harg6 arg15 harg15 x3 x4 x13) (View.readAt (Elt Ideal) arg18.view (Rect.unit (s := S512x128) ![256, 0] S256x128.size inb_S512x128_S256x128_256_0).toLoadRect (harg18.unread x16)) from rfl, laneMax_le, B106]
    simp only [View.readAt_eq_ld, harg5.read_unread, harg6.read_unread, harg15.read_unread, harg18.read_unread]
    rw [View.ld_unit_zero (h := by decide), ld_m x16 _ 256 0 rfl _ _ _ (by dsimp only; omega) (by omega)]
    have er : (⟨256 + (r.val - 256), by omega⟩ : Fin 512) = r := Fin.ext (by show 256 + (r.val - 256) = r.val; omega)
    have eu : (⟨0 + u.val, by omega⟩ : Fin 128) = u := Fin.ext (Nat.zero_add _)
    rw [er, eu]
    exact and_congr_right fun _ => forall_congr' fun t => imp_congr_right fun _ => by rw [sc_hi, er]

end Cert.KernelIdeal.Own

end
-- ==== Proof.StepB.lean ====
/-
  What the body does at a later point of the score pass, as one step of the batch's state: from the scratch as the invariant has it
  before the point to the scratch as the invariant has it after the point.
-/
module

public import proofs.«01_k».proof.Proof.ReadB
public import proofs.«01_k».proof.Proof.Outs
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- What the body does at a later point of the score pass. -/
theorem vrun_B (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : cond0_1 i) (hc2 : ¬cond0_2 i) (hc3 : ¬cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32) (b : Blk) (j : ℕ) (hj : (i 1).val = j) (hj7 : j ≤ 7) (h3 : x3 = b.kc j) (h4 : x4 = b.ks j) (hst : b.St j x12 x13 x14 x15 x16 x17 x18)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ y12 y13 y14 y15 y16 y17 y18, ⌜b.St (j + 1) y12 y13 y14 y15 y16 y17 y18⌝ ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18)) -∗ K ⟨⟩))
      ⊢ wp frame (wpE defs₀ Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, H17, H18, Hk⟩
  have step : ∃ p, p = (pieces_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18) := ⟨_, rfl⟩
  obtain ⟨p, hp⟩ := step
  have hst2 : b.St (j + 1) (arg14.view.read (Elt Ideal) (arg14.view.writes (Elt Ideal) (harg14.unread x12) p.1)) x13 x14 x15 (arg18.view.read (Elt Ideal) (arg18.view.writes (Elt Ideal) (harg18.unread x16) p.2.1)) x17 x18 := by
    rw [hp]
    refine Blk.step_B hj7 hst (fun r t ht => ?_) ?_ (fun r u z => ?_)
    · exact readB_12_old (ht := by rw [hj]; exact ht) ..
    · rw [← h3, ← h4]; exact fun r u t ht => readB_12_new (ht := by rw [hj]; exact ht) ..
    · rw [← h3, ← h4]; exact readB_16 ..
  clear hp
  iapply p.2.2 E _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  iintro ⟨H0, H1, H2, H3, H4, H5, H6, H7, H8, H9, H10, H11, H12, H13, H14, H15, H16, H17, H18⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexists (arg14.view.read (Elt Ideal) (arg14.view.writes (Elt Ideal) (harg14.unread x12) p.1)), x13, x14, x15, (arg18.view.read (Elt Ideal) (arg18.view.writes (Elt Ideal) (harg18.unread x16) p.2.1)), x17, x18
  isplitr
  · ipureintro; exact hst2
  isplitl [H12]
  · iapply (owns_read_of c arg14 _ _ rfl); iexact H12
  isplitl [H13]
  · iexact H13
  isplitl [H14]
  · iexact H14
  isplitl [H15]
  · iexact H15
  isplitl [H16]
  · iapply (owns_read_of c arg18 _ _ rfl); iexact H16
  isplitl [H17]
  · iexact H17
  iexact H18

end Cert.KernelIdeal.Own
-- ==== Proof.PiecesC.lean ====
/-
  The body run as a whole at the first point of the value pass (case C of its conditionals), with what it writes: the pieces that each buffer it
  stores into ends with are found by the run.
-/
module

public import proofs.«01_k».proof.Proof.PiecesB

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case C and the pieces it writes. -/
noncomputable def pieces_C (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : cond0_2 i) (hc3 : cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (x7 : Vec F S1x512x128 .bf16) (x8 : Vec F S1x32x128 .i8) (x9 : Vec F S1x32x1 .f32) (x10 : Vec F S1x32x128 .i8) (x11 : Vec F S1x32x1 .f32) (x12 : Vec F S512x8192 .f32) (x13 : Vec F S512x512 .bf16) (x14 : Vec F S512x128 .f32) (x15 : Vec F S128x512 .bf16) (x16 : Vec F S512x128 .f32) :
    Σ' (L16 : List (View.Piece (Elt F) S512x128 .f32)), Σ' (L17 : List (View.Piece (Elt F) S512x128 .f32)), { L18 : List (View.Piece (Elt F) S512x512 .f32) //
      ∀ (E : Set ℕ) (K : PUnit → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ X, owns (c : Thread nD τ) arg19 fullShare X) ∗ (∃ X, owns (c : Thread nD τ) arg20 fullShare X) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (arg18.view.loc (c : Thread nD τ) ↦[arg18.view.set]{fullShare} arg18.view.writes (Elt F) (harg18.unread x16) L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__attention_kernel_eq_skeleton]; unfold cc0__attention_kernel_skel
    simp only [k0_part15_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexact H16
    isplitl [H17]
    · iexists _; iexact H17
    iexists _; iexact H18

end Cert.KernelIdeal.Own

end
-- ==== Proof.ReadC.lean ====
/-
  What each buffer holds after the body has run at the first point of the value pass, read at an index: the last store that covers
  the index, as a formula of what the body loaded.
-/
module

public import proofs.«01_k».proof.Proof.PiecesC
public import proofs.«01_k».proof.Proof.Pays
public import Idealize.ShloMosaic.Lib.WritesUnit

@[expose] public section

set_option maxRecDepth 16384

noncomputable section

namespace Cert.KernelIdeal.Own

open Idealize.ShloMosaic Idealize.ShloMosaic.TcCoe Idealize.SL.Sem
open Cert.KernelIdeal Cert.KernelIdeal.Gen

variable (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : cond0_2 i) (hc3 : cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32)

theorem C16 (f) (r : Fin 512) (u : Fin 128) : arg18.view.read (Elt Ideal) (arg18.view.writes (Elt Ideal) f (pieces_C.sl.H16_1 c arg18 harg18 x16)) (ix2 r u) = rowMax x16 r := by
  unfold pieces_C.sl.H16_1
  rw [View.read_writes_cons_unit_of_mem (heq := rfl) (x := ix2 r u) (hx := by
    intro a; match a with
    | ⟨0, _⟩ => simp
    | ⟨1, _⟩ => simp)]
  rw [pay93_apply, View.readAt_eq_ld, harg18.read_unread, View.ld_unit_zero (h := by decide)]

theorem C17 (f) (r : Fin 512) (u : Fin 128) : arg19.view.read (Elt Ideal) (arg19.view.writes (Elt Ideal) f (pieces_C.sl.H17_1 c arg16 harg16 arg18 harg18 x14 x16)) (ix2 r u) = pw (x14 (ix2 r u)) (rowMax x16 r) := by
  unfold pieces_C.sl.H17_1
  rw [View.read_writes_cons_unit_of_mem (heq := rfl) (x := ix2 r u) (hx := by
    intro a; match a with
    | ⟨0, _⟩ => simp
    | ⟨1, _⟩ => simp)]
  refine Eq.trans (congrFun (show _ = k0_pay95 (F := Ideal) (View.readAt (Elt Ideal) arg18.view (Rect.unit (s := S512x128) ![0, 0] S512x128.size inb_S512x128_S512x128_0_0).toLoadRect (harg18.unread x16)) (View.readAt (Elt Ideal) arg16.view (Rect.unit (s := S512x128) ![0, 0] S512x128.size inb_S512x128_S512x128_0_0).toLoadRect (harg16.unread x14)) from rfl) _) ?_
  rw [pay95_apply, pay93_apply, View.readAt_eq_ld, View.readAt_eq_ld, harg18.read_unread, harg16.read_unread, View.ld_unit_zero (h := by decide), View.ld_unit_zero (h := by decide)]

theorem C18 (f) (r : Fin 512) (u : Fin 512) : arg20.view.read (Elt Ideal) (arg20.view.writes (Elt Ideal) f (pieces_C.sl.H18_1 c arg16 harg16 arg17 harg17 arg18 harg18 x14 x15 x16)) (ix2 r u) = ∑ c : Fin 128, pw (x14 (ix2 r c)) (rowMax x16 r) * x15 (ix2 c u) := by
  unfold pieces_C.sl.H18_1
  rw [View.read_writes_cons_unit_of_mem (heq := rfl) (x := ix2 r u) (hx := by
    intro a; match a with
    | ⟨0, _⟩ => simp
    | ⟨1, _⟩ => simp)]
  refine Eq.trans (congrFun (show _ = k0_pay96 (F := Ideal) (View.readAt (Elt Ideal) arg18.view (Rect.unit (s := S512x128) ![0, 0] S512x128.size inb_S512x128_S512x128_0_0).toLoadRect (harg18.unread x16)) (View.readAt (Elt Ideal) arg16.view (Rect.unit (s := S512x128) ![0, 0] S512x128.size inb_S512x128_S512x128_0_0).toLoadRect (harg16.unread x14)) (View.readAt (Elt Ideal) arg17.view (Rect.unit (s := S128x512) ![0, 0] S128x512.size inb_S128x512_S128x512_0_0).toLoadRect (harg17.unread x15)) from rfl) _) ?_
  simp only [pay96_apply, pay93_apply]
  rw [View.readAt_eq_ld, View.readAt_eq_ld, View.readAt_eq_ld, harg18.read_unread, harg16.read_unread, harg17.read_unread, View.ld_unit_zero (h := by decide), View.ld_unit_zero (h := by decide), View.ld_unit_zero (h := by decide)]

theorem readC_16 (r : Fin 512) (u : Fin 128) : arg18.view.read (Elt Ideal) (arg18.view.writes (Elt Ideal) (harg18.unread x16) (pieces_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16).1) (ix2 r u) = rowMax x16 r := by
  unfold pieces_C; dsimp only
  exact C16 c arg18 harg18 x16 _ r u

theorem readC_17 (f17) (r : Fin 512) (u : Fin 128) (hi : 8 ≤ (i 1).val) :
    arg19.view.read (Elt Ideal) (arg19.view.writes (Elt Ideal) f17 (pieces_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16).2.1) (ix2 r u) = pw (x14 (ix2 r u)) (rowMax x16 r) + ∑ k ∈ Finset.range 8, pw (sAt x12 r (1024 * ((i 1).val - 8) + (128 * k + u.val))) (rowMax x16 r) := by
  unfold pieces_C; dsimp only
  have ht : u.val = 0 + u.val := (Nat.zero_add _).symm
  by_cases hr : r.val < 256
  · rw [View.read_writes_cons_unit_of_not_mem (heq := rfl) (a := 0) (ha := .inl (by simpa using hr))]
    unfold pieces_C.sl.H17_2
    rw [
      View.read_writes_cons_unit_of_mem (heq := rfl) (x := ix2 ⟨r.val, hr⟩ u) (hx := by
        intro a; match a with
        | ⟨0, _⟩ => simp
        | ⟨1, _⟩ => simpa using ht)]
    refine Eq.trans (lanesLo i hi (arg14.view.read (Elt Ideal) (harg14.unread x12)) (arg18.view.read (Elt Ideal) (arg18.view.writes (Elt Ideal) arg18.view.junk (pieces_C.sl.H16_1 c arg18 harg18 x16))) (arg19.view.read (Elt Ideal) (arg19.view.writes (Elt Ideal) arg19.view.junk (pieces_C.sl.H17_1 c arg16 harg16 arg18 harg18 x14 x16))) r ⟨r.val, hr⟩ rfl u _ _ _ _ _ _ _ _ _ _) ?_
    rw [harg14.read_unread, C16, C17]
  · rw [View.read_writes_cons_unit_of_mem (heq := rfl) (x := ix2 ⟨r.val - 256, by omega⟩ u) (hx := by
        intro a; match a with
        | ⟨0, _⟩ => simp; omega
        | ⟨1, _⟩ => simpa using ht)]
    refine Eq.trans (lanesHi i hi (arg14.view.read (Elt Ideal) (harg14.unread x12)) (arg18.view.read (Elt Ideal) (arg18.view.writes (Elt Ideal) arg18.view.junk (pieces_C.sl.H16_1 c arg18 harg18 x16))) (arg19.view.read (Elt Ideal) (arg19.view.writes (Elt Ideal) arg19.view.junk (pieces_C.sl.H17_2 c i arg14 harg14 arg16 harg16 arg18 harg18 arg19 hc3 x12 x14 x16))) r ⟨r.val - 256, by omega⟩ (by dsimp only; omega) u _ _ _ _ _ _ _ _ _ _) ?_
    rw [harg14.read_unread, C16]
    unfold pieces_C.sl.H17_2
    rw [View.read_writes_cons_unit_of_not_mem (heq := rfl) (a := 0) (ha := .inr (by simp; omega)), C17]

theorem readC_18 (f18) (r : Fin 512) (u : Fin 512) (hi : 8 ≤ (i 1).val) :
    arg20.view.read (Elt Ideal) (arg20.view.writes (Elt Ideal) f18 (pieces_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16).2.2.1) (ix2 r u) = ∑ c : Fin 128, pw (x14 (ix2 r c)) (rowMax x16 r) * x15 (ix2 c u) + ∑ t : Fin 1024, pw (sAt x12 r (1024 * ((i 1).val - 8) + t.val)) (rowMax x16 r) * dq x5 x6 ⟨r.val / 256, by omega⟩ u t := by
  unfold pieces_C; dsimp only
  have ht : u.val = 0 + u.val := (Nat.zero_add _).symm
  have h5 : (View.readAt (Elt Ideal) arg7.view (Rect.unit (s := S1x1024x8x128) ![0, 0, 0, 0] S1x1024x8x128.size inb_S1x1024x8x128_S1x1024x8x128_0_0_0_0).toLoadRect (harg7.unread x5)) = x5 := by
    rw [View.readAt_eq_ld, harg7.read_unread, View.ld_unit_zero (h := by decide)]
  by_cases hr : r.val < 256
  · rw [View.read_writes_cons_unit_of_not_mem (heq := rfl) (a := 0) (ha := .inl (by simpa using hr))]
    unfold pieces_C.sl.H18_2
    rw [
      View.read_writes_cons_unit_of_mem (heq := rfl) (x := ix2 ⟨r.val, hr⟩ u) (hx := by
        intro a; match a with
        | ⟨0, _⟩ => simp
        | ⟨1, _⟩ => simpa using ht)]
    refine Eq.trans (accLo i hi (arg14.view.read (Elt Ideal) (harg14.unread x12)) (arg18.view.read (Elt Ideal) (arg18.view.writes (Elt Ideal) arg18.view.junk (pieces_C.sl.H16_1 c arg18 harg18 x16))) (arg20.view.read (Elt Ideal) (arg20.view.writes (Elt Ideal) arg20.view.junk (pieces_C.sl.H18_1 c arg16 harg16 arg17 harg17 arg18 harg18 x14 x15 x16))) (View.readAt (Elt Ideal) arg7.view (Rect.unit (s := S1x1024x8x128) ![0, 0, 0, 0] S1x1024x8x128.size inb_S1x1024x8x128_S1x1024x8x128_0_0_0_0).toLoadRect (harg7.unread x5)) (arg8.view.read (Elt Ideal) (harg8.unread x6)) r ⟨r.val, hr⟩ rfl u (fun c1 c2 => by rw [C16, C16]) _ _ _ _ _ _ _ _ _ _ _) ?_
    rw [harg14.read_unread, C16, C18, harg8.read_unread, h5]
  · rw [View.read_writes_cons_unit_of_mem (heq := rfl) (x := ix2 ⟨r.val - 256, by omega⟩ u) (hx := by
        intro a; match a with
        | ⟨0, _⟩ => simp; omega
        | ⟨1, _⟩ => simpa using ht)]
    refine Eq.trans (accHi i hi (arg14.view.read (Elt Ideal) (harg14.unread x12)) (arg18.view.read (Elt Ideal) (arg18.view.writes (Elt Ideal) arg18.view.junk (pieces_C.sl.H16_1 c arg18 harg18 x16))) (arg20.view.read (Elt Ideal) (arg20.view.writes (Elt Ideal) arg20.view.junk (pieces_C.sl.H18_2 c i arg7 harg7 arg8 harg8 arg14 harg14 arg16 harg16 arg17 harg17 arg18 harg18 arg20 hc3 x5 x6 x12 x14 x15 x16))) (View.readAt (Elt Ideal) arg7.view (Rect.unit (s := S1x1024x8x128) ![0, 0, 0, 0] S1x1024x8x128.size inb_S1x1024x8x128_S1x1024x8x128_0_0_0_0).toLoadRect (harg7.unread x5)) (arg8.view.read (Elt Ideal) (harg8.unread x6)) r ⟨r.val - 256, by omega⟩ (by dsimp only; omega) u (fun c1 c2 => by rw [C16, C16]) _ _ _ _ _ _ _ _ _ _ _) ?_
    rw [harg14.read_unread, C16, harg8.read_unread, h5]
    unfold pieces_C.sl.H18_2
    rw [View.read_writes_cons_unit_of_not_mem (heq := rfl) (a := 0) (ha := .inr (by simp; omega)), C18]

end Cert.KernelIdeal.Own

end
-- ==== Proof.StepC.lean ====
/-
  What the body does at the first point of the value pass, as one step of the batch's state: from the scratch as the invariant has it
  before the point to the scratch as the invariant has it after the point.
-/
module

public import proofs.«01_k».proof.Proof.ReadC
public import proofs.«01_k».proof.Proof.Outs
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- What the body does at the first point of the value pass. -/
theorem vrun_C (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : cond0_2 i) (hc3 : cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32) (b : Blk) (hj : (i 1).val = 8) (h5 : x5 = b.vc 0) (h6 : x6 = b.vs 0) (hst : b.St 8 x12 x13 x14 x15 x16 x17 x18)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ y12 y13 y14 y15 y16 y17 y18, ⌜b.St 9 y12 y13 y14 y15 y16 y17 y18⌝ ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18)) -∗ K ⟨⟩))
      ⊢ wp frame (wpE defs₀ Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, H17, H18, Hk⟩
  have step : ∃ p, p = (pieces_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16) := ⟨_, rfl⟩
  obtain ⟨p, hp⟩ := step
  have hst2 : ∀ f17, ∀ f18, b.St 9 x12 x13 x14 x15 (arg18.view.read (Elt Ideal) (arg18.view.writes (Elt Ideal) (harg18.unread x16) p.1)) (arg19.view.read (Elt Ideal) (arg19.view.writes (Elt Ideal) f17 p.2.1)) (arg20.view.read (Elt Ideal) (arg20.view.writes (Elt Ideal) f18 p.2.2.1)) := by
    rw [hp]
    intro _ _
    refine Blk.step_C hst (fun r u => ?_) (fun r u => ?_) (fun r u => ?_)
    · exact readC_16 ..
    · exact (readC_17 (hi := by rw [hj]) ..).trans (by rw [hj])
    · rw [← h5, ← h6]; exact (readC_18 (hi := by rw [hj]) ..).trans (by rw [hj])
  clear hp
  iapply p.2.2.2 E _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexists _; iexact H17
  isplitl [H18]
  · iexists _; iexact H18
  iintro ⟨H0, H1, H2, H3, H4, H5, H6, H7, H8, H9, H10, H11, H12, H13, H14, H15, H16, ⟨%f17, H17⟩, ⟨%f18, H18⟩⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexists x12, x13, x14, x15, (arg18.view.read (Elt Ideal) (arg18.view.writes (Elt Ideal) (harg18.unread x16) p.1)), (arg19.view.read (Elt Ideal) (arg19.view.writes (Elt Ideal) f17 p.2.1)), (arg20.view.read (Elt Ideal) (arg20.view.writes (Elt Ideal) f18 p.2.2.1))
  isplitr
  · ipureintro; exact hst2 f17 f18
  isplitl [H12]
  · iexact H12
  isplitl [H13]
  · iexact H13
  isplitl [H14]
  · iexact H14
  isplitl [H15]
  · iexact H15
  isplitl [H16]
  · iapply (owns_read_of c arg18 _ _ rfl); iexact H16
  isplitl [H17]
  · iapply (owns_read_of c arg19 _ _ rfl); iexact H17
  iapply (owns_read_of c arg20 _ _ rfl); iexact H18

end Cert.KernelIdeal.Own
-- ==== Proof.PiecesD.lean ====
/-
  The body run as a whole at a later point of the value pass (case D of its conditionals), with what it writes: the pieces that each buffer it
  stores into ends with are found by the run.
-/
module

public import proofs.«01_k».proof.Proof.PiecesC

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case D and the pieces it writes. -/
noncomputable def pieces_D (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : ¬cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (x7 : Vec F S1x512x128 .bf16) (x8 : Vec F S1x32x128 .i8) (x9 : Vec F S1x32x1 .f32) (x10 : Vec F S1x32x128 .i8) (x11 : Vec F S1x32x1 .f32) (x12 : Vec F S512x8192 .f32) (x13 : Vec F S512x512 .bf16) (x14 : Vec F S512x128 .f32) (x15 : Vec F S128x512 .bf16) (x16 : Vec F S512x128 .f32) (x17 : Vec F S512x128 .f32) (x18 : Vec F S512x512 .f32) :
    Σ' (L17 : List (View.Piece (Elt F) S512x128 .f32)), { L18 : List (View.Piece (Elt F) S512x512 .f32) //
      ∀ (E : Set ℕ) (K : PUnit → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0__attention_kernel_eq_skeleton]; unfold cc0__attention_kernel_skel
    simp only [k0_part15_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexact H17
    iexact H18

end Cert.KernelIdeal.Own

end
-- ==== Proof.ReadD.lean ====
/-
  What each buffer holds after the body has run at a later point of the value pass, read at an index: the last store that covers
  the index, as a formula of what the body loaded.
-/
module

public import proofs.«01_k».proof.Proof.PiecesD
public import proofs.«01_k».proof.Proof.Lanes
public import Idealize.ShloMosaic.Lib.WritesUnit

@[expose] public section

set_option maxRecDepth 16384

noncomputable section

namespace Cert.KernelIdeal.Own

open Idealize.ShloMosaic Idealize.ShloMosaic.TcCoe Idealize.SL.Sem
open Cert.KernelIdeal Cert.KernelIdeal.Gen

variable (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32)

theorem readD_17 (r : Fin 512) (u : Fin 128) (hi : 8 ≤ (i 1).val) :
    arg19.view.read (Elt Ideal) (arg19.view.writes (Elt Ideal) (harg19.unread x17) (pieces_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18).1) (ix2 r u) = x17 (ix2 r u) + ∑ k ∈ Finset.range 8, pw (sAt x12 r (1024 * ((i 1).val - 8) + (128 * k + u.val))) (x16 (ix2 r u)) := by
  unfold pieces_D; dsimp only
  have ht : u.val = 0 + u.val := (Nat.zero_add _).symm
  by_cases hr : r.val < 256
  · rw [View.read_writes_cons_unit_of_not_mem (heq := rfl) (a := 0) (ha := .inl (by simpa using hr)),
      View.read_writes_cons_unit_of_mem (heq := rfl) (x := ix2 ⟨r.val, hr⟩ u) (hx := by
        intro a; match a with
        | ⟨0, _⟩ => simp
        | ⟨1, _⟩ => simpa using ht)]
    refine Eq.trans (lanesLo i hi (arg14.view.read (Elt Ideal) (harg14.unread x12)) (arg18.view.read (Elt Ideal) (harg18.unread x16)) (arg19.view.read (Elt Ideal) (harg19.unread x17)) r ⟨r.val, hr⟩ rfl u _ _ _ _ _ _ _ _ _ _) ?_
    rw [harg14.read_unread, harg18.read_unread, harg19.read_unread]
  · rw [View.read_writes_cons_unit_of_mem (heq := rfl) (x := ix2 ⟨r.val - 256, by omega⟩ u) (hx := by
        intro a; match a with
        | ⟨0, _⟩ => simp; omega
        | ⟨1, _⟩ => simpa using ht)]
    refine Eq.trans (lanesHi i hi (arg14.view.read (Elt Ideal) (harg14.unread x12)) (arg18.view.read (Elt Ideal) (harg18.unread x16)) (arg19.view.read (Elt Ideal) (harg19.unread x17)) r ⟨r.val - 256, by omega⟩ (by dsimp only; omega) u _ _ _ _ _ _ _ _ _ _) ?_
    rw [harg14.read_unread, harg18.read_unread, harg19.read_unread]

theorem readD_18 (r : Fin 512) (u : Fin 512) (hi : 8 ≤ (i 1).val) (hM : ∀ c c' : Fin 128, x16 (ix2 r c) = x16 (ix2 r c')) :
    arg20.view.read (Elt Ideal) (arg20.view.writes (Elt Ideal) (harg20.unread x18) (pieces_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18).2.1) (ix2 r u) = x18 (ix2 r u) + ∑ t : Fin 1024, pw (sAt x12 r (1024 * ((i 1).val - 8) + t.val)) (x16 (ix2 r 0)) * dq x5 x6 ⟨r.val / 256, by omega⟩ u t := by
  unfold pieces_D; dsimp only
  have ht : u.val = 0 + u.val := (Nat.zero_add _).symm
  have h5 : (View.readAt (Elt Ideal) arg7.view (Rect.unit (s := S1x1024x8x128) ![0, 0, 0, 0] S1x1024x8x128.size inb_S1x1024x8x128_S1x1024x8x128_0_0_0_0).toLoadRect (harg7.unread x5)) = x5 := by
    rw [View.readAt_eq_ld, harg7.read_unread, View.ld_unit_zero (h := by decide)]
  by_cases hr : r.val < 256
  · rw [View.read_writes_cons_unit_of_not_mem (heq := rfl) (a := 0) (ha := .inl (by simpa using hr)),
      View.read_writes_cons_unit_of_mem (heq := rfl) (x := ix2 ⟨r.val, hr⟩ u) (hx := by
        intro a; match a with
        | ⟨0, _⟩ => simp
        | ⟨1, _⟩ => simpa using ht)]
    refine Eq.trans (accLo i hi (arg14.view.read (Elt Ideal) (harg14.unread x12)) (arg18.view.read (Elt Ideal) (harg18.unread x16)) (arg20.view.read (Elt Ideal) (harg20.unread x18)) (View.readAt (Elt Ideal) arg7.view (Rect.unit (s := S1x1024x8x128) ![0, 0, 0, 0] S1x1024x8x128.size inb_S1x1024x8x128_S1x1024x8x128_0_0_0_0).toLoadRect (harg7.unread x5)) (arg8.view.read (Elt Ideal) (harg8.unread x6)) r ⟨r.val, hr⟩ rfl u (by rw [harg18.read_unread]; exact hM) _ _ _ _ _ _ _ _ _ _ _) ?_
    rw [harg14.read_unread, harg18.read_unread, harg20.read_unread, harg8.read_unread, h5]
  · rw [View.read_writes_cons_unit_of_mem (heq := rfl) (x := ix2 ⟨r.val - 256, by omega⟩ u) (hx := by
        intro a; match a with
        | ⟨0, _⟩ => simp; omega
        | ⟨1, _⟩ => simpa using ht)]
    refine Eq.trans (accHi i hi (arg14.view.read (Elt Ideal) (harg14.unread x12)) (arg18.view.read (Elt Ideal) (harg18.unread x16)) (arg20.view.read (Elt Ideal) (harg20.unread x18)) (View.readAt (Elt Ideal) arg7.view (Rect.unit (s := S1x1024x8x128) ![0, 0, 0, 0] S1x1024x8x128.size inb_S1x1024x8x128_S1x1024x8x128_0_0_0_0).toLoadRect (harg7.unread x5)) (arg8.view.read (Elt Ideal) (harg8.unread x6)) r ⟨r.val - 256, by omega⟩ (by dsimp only; omega) u (by rw [harg18.read_unread]; exact hM) _ _ _ _ _ _ _ _ _ _ _) ?_
    rw [harg14.read_unread, harg18.read_unread, harg20.read_unread, harg8.read_unread, h5]

end Cert.KernelIdeal.Own

end
-- ==== Proof.StepD.lean ====
/-
  What the body does at a later point of the value pass, as one step of the batch's state: from the scratch as the invariant has it
  before the point to the scratch as the invariant has it after the point.
-/
module

public import proofs.«01_k».proof.Proof.ReadD
public import proofs.«01_k».proof.Proof.Outs
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- What the body does at a later point of the value pass. -/
theorem vrun_D (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : ¬cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x7 : Vec Ideal S1x512x128 .bf16) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32) (b : Blk) (j : ℕ) (hj : (i 1).val = j) (hj9 : 9 ≤ j) (hj15 : j ≤ 15) (h5 : x5 = b.vc (j - 8)) (h6 : x6 = b.vs (j - 8)) (hst : b.St j x12 x13 x14 x15 x16 x17 x18)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ y12 y13 y14 y15 y16 y17 y18, ⌜b.St (j + 1) y12 y13 y14 y15 y16 y17 y18⌝ ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ owns (c : Thread nD τ) arg19 fullShare y17 ∗ owns (c : Thread nD τ) arg20 fullShare y18)) -∗ K ⟨⟩))
      ⊢ wp frame (wpE defs₀ Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, H17, H18, Hk⟩
  have step : ∃ p, p = (pieces_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x7 x8 x9 x10 x11 x12 x13 x14 x15 x16 x17 x18) := ⟨_, rfl⟩
  obtain ⟨p, hp⟩ := step
  have hst2 : b.St (j + 1) x12 x13 x14 x15 x16 (arg19.view.read (Elt Ideal) (arg19.view.writes (Elt Ideal) (harg19.unread x17) p.1)) (arg20.view.read (Elt Ideal) (arg20.view.writes (Elt Ideal) (harg20.unread x18) p.2.1)) := by
    rw [hp]
    refine Blk.step_D hj9 hj15 hst (fun r u => ?_) (fun r u => ?_)
    · exact (readD_17 (hi := by rw [hj]; omega) ..).trans (by rw [hj])
    · rw [← h5, ← h6]; exact (readD_18 (hi := by rw [hj]; omega) (hM := fun c c' => (hst.h16' hj9 r c).trans (hst.h16' hj9 r c').symm) ..).trans (by rw [hj])
  clear hp
  iapply p.2.2 E _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  iintro ⟨H0, H1, H2, H3, H4, H5, H6, H7, H8, H9, H10, H11, H12, H13, H14, H15, H16, H17, H18⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexists x12, x13, x14, x15, x16, (arg19.view.read (Elt Ideal) (arg19.view.writes (Elt Ideal) (harg19.unread x17) p.1)), (arg20.view.read (Elt Ideal) (arg20.view.writes (Elt Ideal) (harg20.unread x18) p.2.1))
  isplitr
  · ipureintro; exact hst2
  isplitl [H12]
  · iexact H12
  isplitl [H13]
  · iexact H13
  isplitl [H14]
  · iexact H14
  isplitl [H15]
  · iexact H15
  isplitl [H16]
  · iexact H16
  isplitl [H17]
  · iapply (owns_read_of c arg19 _ _ rfl); iexact H17
  iapply (owns_read_of c arg20 _ _ rfl); iexact H18

end Cert.KernelIdeal.Own
-- ==== Proof.PiecesE.lean ====
/-
  The body run as a whole at the last point of a batch (case E of its conditionals), with what it writes: the pieces that each buffer it
  stores into ends with are found by the run.
-/
module

public import proofs.«01_k».proof.Proof.PiecesD

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The run in case E and the pieces it writes. -/
noncomputable def pieces_E (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : cond0_4 i)
    (x0 : Vec F S1x512x128 .bf16) (x1 : Vec F S1x32x128 .bf16) (x2 : Vec F S1x32x128 .bf16) (x3 : Vec F S1x1024x8x128 .i8) (x4 : Vec F S1x8x1024 .f32) (x5 : Vec F S1x1024x8x128 .i8) (x6 : Vec F S1x8x1024 .f32) (x8 : Vec F S1x32x128 .i8) (x9 : Vec F S1x32x1 .f32) (x10 : Vec F S1x32x128 .i8) (x11 : Vec F S1x32x1 .f32) (x12 : Vec F S512x8192 .f32) (x13 : Vec F S512x512 .bf16) (x14 : Vec F S512x128 .f32) (x15 : Vec F S128x512 .bf16) (x16 : Vec F S512x128 .f32) (x17 : Vec F S512x128 .f32) (x18 : Vec F S512x512 .f32) :
    Σ' (L7 : List (View.Piece (Elt F) S1x512x128 .bf16)), Σ' (L17 : List (View.Piece (Elt F) S512x128 .f32)), { L18 : List (View.Piece (Elt F) S512x512 .f32) //
      ∀ (E : Set ℕ) (K : PUnit → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (arg19.view.loc (c : Thread nD τ) ↦[arg19.view.set]{fullShare} arg19.view.writes (Elt F) (harg19.unread x17) L17) ∗ (arg20.view.loc (c : Thread nD τ) ↦[arg20.view.set]{fullShare} arg20.view.writes (Elt F) (harg20.unread x18) L18)) -∗ K ⟨⟩))
      ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__attention_kernel_eq_skeleton]; unfold cc0__attention_kernel_skel
    simp only [k0_part15_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexact H17
    iexact H18

end Cert.KernelIdeal.Own

end
-- ==== Proof.ReadE.lean ====
/-
  What each buffer holds after the body has run at the last point of a batch, read at an index: the last store that covers
  the index, as a formula of what the body loaded.
-/
module

public import proofs.«01_k».proof.Proof.PiecesE
public import proofs.«01_k».proof.Proof.Pays
public import Idealize.ShloMosaic.Lib.WritesUnit

@[expose] public section

set_option maxRecDepth 16384

noncomputable section

namespace Cert.KernelIdeal.Own

open Idealize.ShloMosaic Idealize.ShloMosaic.TcCoe Idealize.SL.Sem
open Cert.KernelIdeal Cert.KernelIdeal.Gen

variable (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32)

theorem E17 (f) (r : Fin 512) (u : Fin 128) (hi : 8 ≤ (i 1).val) :
    arg19.view.read (Elt Ideal) (arg19.view.writes (Elt Ideal) f (pieces_E.sl.H17_2 c i arg14 harg14 arg18 harg18 arg19 harg19 hc3 x12 x16 x17)) (ix2 r u) = x17 (ix2 r u) + ∑ k ∈ Finset.range 8, pw (sAt x12 r (1024 * ((i 1).val - 8) + (128 * k + u.val))) (x16 (ix2 r u)) := by
  have ht : u.val = 0 + u.val := (Nat.zero_add _).symm
  unfold pieces_E.sl.H17_2
  by_cases hr : r.val < 256
  · rw [View.read_writes_cons_unit_of_not_mem (heq := rfl) (a := 0) (ha := .inl (by simpa using hr)),
      View.read_writes_cons_unit_of_mem (heq := rfl) (x := ix2 ⟨r.val, hr⟩ u) (hx := by
        intro a; match a with
        | ⟨0, _⟩ => simp
        | ⟨1, _⟩ => simpa using ht)]
    refine Eq.trans (lanesLo i hi (arg14.view.read (Elt Ideal) (harg14.unread x12)) (arg18.view.read (Elt Ideal) (harg18.unread x16)) (arg19.view.read (Elt Ideal) (harg19.unread x17)) r ⟨r.val, hr⟩ rfl u _ _ _ _ _ _ _ _ _ _) ?_
    rw [harg14.read_unread, harg18.read_unread, harg19.read_unread]
  · rw [View.read_writes_cons_unit_of_mem (heq := rfl) (x := ix2 ⟨r.val - 256, by omega⟩ u) (hx := by
        intro a; match a with
        | ⟨0, _⟩ => simp; omega
        | ⟨1, _⟩ => simpa using ht)]
    refine Eq.trans (lanesHi i hi (arg14.view.read (Elt Ideal) (harg14.unread x12)) (arg18.view.read (Elt Ideal) (harg18.unread x16)) (arg19.view.read (Elt Ideal) (harg19.unread x17)) r ⟨r.val - 256, by omega⟩ (by dsimp only; omega) u _ _ _ _ _ _ _ _ _ _) ?_
    rw [harg14.read_unread, harg18.read_unread, harg19.read_unread]

theorem E18 (f) (r : Fin 512) (u : Fin 512) (hi : 8 ≤ (i 1).val) (hM : ∀ c c' : Fin 128, x16 (ix2 r c) = x16 (ix2 r c')) :
    arg20.view.read (Elt Ideal) (arg20.view.writes (Elt Ideal) f (pieces_E.sl.H18_2 c i arg7 harg7 arg8 harg8 arg14 harg14 arg18 harg18 arg20 harg20 hc3 x5 x6 x12 x16 x18)) (ix2 r u) = x18 (ix2 r u) + ∑ t : Fin 1024, pw (sAt x12 r (1024 * ((i 1).val - 8) + t.val)) (x16 (ix2 r 0)) * dq x5 x6 ⟨r.val / 256, by omega⟩ u t := by
  have ht : u.val = 0 + u.val := (Nat.zero_add _).symm
  unfold pieces_E.sl.H18_2
  have h5 : (View.readAt (Elt Ideal) arg7.view (Rect.unit (s := S1x1024x8x128) ![0, 0, 0, 0] S1x1024x8x128.size inb_S1x1024x8x128_S1x1024x8x128_0_0_0_0).toLoadRect (harg7.unread x5)) = x5 := by
    rw [View.readAt_eq_ld, harg7.read_unread, View.ld_unit_zero (h := by decide)]
  by_cases hr : r.val < 256
  · rw [View.read_writes_cons_unit_of_not_mem (heq := rfl) (a := 0) (ha := .inl (by simpa using hr)),
      View.read_writes_cons_unit_of_mem (heq := rfl) (x := ix2 ⟨r.val, hr⟩ u) (hx := by
        intro a; match a with
        | ⟨0, _⟩ => simp
        | ⟨1, _⟩ => simpa using ht)]
    refine Eq.trans (accLo i hi (arg14.view.read (Elt Ideal) (harg14.unread x12)) (arg18.view.read (Elt Ideal) (harg18.unread x16)) (arg20.view.read (Elt Ideal) (harg20.unread x18)) (View.readAt (Elt Ideal) arg7.view (Rect.unit (s := S1x1024x8x128) ![0, 0, 0, 0] S1x1024x8x128.size inb_S1x1024x8x128_S1x1024x8x128_0_0_0_0).toLoadRect (harg7.unread x5)) (arg8.view.read (Elt Ideal) (harg8.unread x6)) r ⟨r.val, hr⟩ rfl u (by rw [harg18.read_unread]; exact hM) _ _ _ _ _ _ _ _ _ _ _) ?_
    rw [harg14.read_unread, harg18.read_unread, harg20.read_unread, harg8.read_unread, h5]
  · rw [View.read_writes_cons_unit_of_mem (heq := rfl) (x := ix2 ⟨r.val - 256, by omega⟩ u) (hx := by
        intro a; match a with
        | ⟨0, _⟩ => simp; omega
        | ⟨1, _⟩ => simpa using ht)]
    refine Eq.trans (accHi i hi (arg14.view.read (Elt Ideal) (harg14.unread x12)) (arg18.view.read (Elt Ideal) (harg18.unread x16)) (arg20.view.read (Elt Ideal) (harg20.unread x18)) (View.readAt (Elt Ideal) arg7.view (Rect.unit (s := S1x1024x8x128) ![0, 0, 0, 0] S1x1024x8x128.size inb_S1x1024x8x128_S1x1024x8x128_0_0_0_0).toLoadRect (harg7.unread x5)) (arg8.view.read (Elt Ideal) (harg8.unread x6)) r ⟨r.val - 256, by omega⟩ (by dsimp only; omega) u (by rw [harg18.read_unread]; exact hM) _ _ _ _ _ _ _ _ _ _ _) ?_
    rw [harg14.read_unread, harg18.read_unread, harg20.read_unread, harg8.read_unread, h5]

theorem readE_7 (f7) (r : Fin 512) (d : Fin 128) (hi : 8 ≤ (i 1).val) (hM : ∀ c c' : Fin 128, x16 (ix2 r c) = x16 (ix2 r c')) :
    arg9.view.read (Elt Ideal) (arg9.view.writes (Elt Ideal) f7 (pieces_E (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x8 x9 x10 x11 x12 x13 x14 x15 x16 x17 x18).1) (ix3 0 r d)
      = Ideal.div (x18 (ix2 r ⟨4 * d.val + r.val / 64 % 4, by omega⟩) + ∑ t : Fin 1024, pw (sAt x12 r (1024 * ((i 1).val - 8) + t.val)) (x16 (ix2 r 0)) * dq x5 x6 ⟨r.val / 256, by omega⟩ ⟨4 * d.val + r.val / 64 % 4, by omega⟩ t)
          (∑ u : Fin 128, (x17 (ix2 r u) + ∑ k ∈ Finset.range 8, pw (sAt x12 r (1024 * ((i 1).val - 8) + (128 * k + u.val))) (x16 (ix2 r u)))) := by
  unfold pieces_E; dsimp only
  rw [View.read_writes_cons_unit_of_mem (heq := rfl) (x := ix3 0 r d) (hx := by
    intro a; match a with
    | ⟨0, _⟩ => simp
    | ⟨1, _⟩ => simp
    | ⟨2, _⟩ => simp)]
  refine Eq.trans (pay5_apply (pieces_E.sl.r_22 c i arg7 harg7 arg8 harg8 arg14 harg14 arg18 harg18 arg19 harg19 arg20 harg20 hc3 x5 x6 x12 x16 x17 x18) r d) ?_
  unfold pieces_E.sl.r_22
  rw [pay85_apply]
  unfold pieces_E.sl.v45 pieces_E.sl.v48 View.readCov
  simp only [View.readAt_eq_ld]
  rw [View.ld_unit_zero (h := by decide), View.ld_unit_zero (h := by decide), E18 c i arg7 harg7 arg8 harg8 arg14 harg14 arg18 harg18 arg20 harg20 hc3 x5 x6 x12 x16 x18 _ r _ hi hM]
  simp only [E17 c i arg14 harg14 arg18 harg18 arg19 harg19 hc3 x12 x16 x17 _ r _ hi]

end Cert.KernelIdeal.Own

end
-- ==== Proof.StepE.lean ====
/-
  What the body does at the last point of a batch, as one step of the batch's state: from the scratch as the invariant has it
  before the point to the scratch as the invariant has it after the point.
-/
module

public import proofs.«01_k».proof.Proof.ReadE
public import proofs.«01_k».proof.Proof.Outs
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- What the body does at the last point of a batch. -/
theorem vrun_E (c : Dev nD) (i : grid0.Coords) (arg2 : Memref sig .tc .vmem S1x512x128 .bf16) (harg2 : arg2.IsWhole) (arg3 : Memref sig .tc .vmem S1x32x128 .bf16) (harg3 : arg3.IsWhole) (arg4 : Memref sig .tc .vmem S1x32x128 .bf16) (harg4 : arg4.IsWhole) (arg5 : Memref sig .tc .vmem S1x1024x8x128 .i8) (harg5 : arg5.IsWhole) (arg6 : Memref sig .tc .vmem S1x8x1024 .f32) (harg6 : arg6.IsWhole) (arg7 : Memref sig .tc .vmem S1x1024x8x128 .i8) (harg7 : arg7.IsWhole) (arg8 : Memref sig .tc .vmem S1x8x1024 .f32) (harg8 : arg8.IsWhole) (arg9 : Memref sig .tc .vmem S1x512x128 .bf16) (harg9 : arg9.IsWhole) (arg10 : Memref sig .tc .vmem S1x32x128 .i8) (harg10 : arg10.IsWhole) (arg11 : Memref sig .tc .vmem S1x32x1 .f32) (harg11 : arg11.IsWhole) (arg12 : Memref sig .tc .vmem S1x32x128 .i8) (harg12 : arg12.IsWhole) (arg13 : Memref sig .tc .vmem S1x32x1 .f32) (harg13 : arg13.IsWhole) (arg14 : Memref sig .tc .vmem S512x8192 .f32) (harg14 : arg14.IsWhole) (arg15 : Memref sig .tc .vmem S512x512 .bf16) (harg15 : arg15.IsWhole) (arg16 : Memref sig .tc .vmem S512x128 .f32) (harg16 : arg16.IsWhole) (arg17 : Memref sig .tc .vmem S128x512 .bf16) (harg17 : arg17.IsWhole) (arg18 : Memref sig .tc .vmem S512x128 .f32) (harg18 : arg18.IsWhole) (arg19 : Memref sig .tc .vmem S512x128 .f32) (harg19 : arg19.IsWhole) (arg20 : Memref sig .tc .vmem S512x512 .f32) (harg20 : arg20.IsWhole) (hc0 : ¬cond0_0 i) (hc1 : ¬cond0_1 i) (hc2 : ¬cond0_2 i) (hc3 : cond0_3 i) (hc4 : cond0_4 i) (x0 : Vec Ideal S1x512x128 .bf16) (x1 : Vec Ideal S1x32x128 .bf16) (x2 : Vec Ideal S1x32x128 .bf16) (x3 : Vec Ideal S1x1024x8x128 .i8) (x4 : Vec Ideal S1x8x1024 .f32) (x5 : Vec Ideal S1x1024x8x128 .i8) (x6 : Vec Ideal S1x8x1024 .f32) (x8 : Vec Ideal S1x32x128 .i8) (x9 : Vec Ideal S1x32x1 .f32) (x10 : Vec Ideal S1x32x128 .i8) (x11 : Vec Ideal S1x32x1 .f32) (x12 : Vec Ideal S512x8192 .f32) (x13 : Vec Ideal S512x512 .bf16) (x14 : Vec Ideal S512x128 .f32) (x15 : Vec Ideal S128x512 .bf16) (x16 : Vec Ideal S512x128 .f32) (x17 : Vec Ideal S512x128 .f32) (x18 : Vec Ideal S512x512 .f32) (b : Blk) (hj : (i 1).val = 15) (h5 : x5 = b.vc 7) (h6 : x6 = b.vs 7) (hst : b.St 15 x12 x13 x14 x15 x16 x17 x18)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, owns (c : Thread nD τ) arg9 fullShare X) ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yOf b) ∗ owns (c : Thread nD τ) arg10 fullShare x8 ∗ owns (c : Thread nD τ) arg11 fullShare x9 ∗ owns (c : Thread nD τ) arg12 fullShare x10 ∗ owns (c : Thread nD τ) arg13 fullShare x11 ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X)) -∗ K ⟨⟩))
      ⊢ wp frame (wpE defs₀ Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H0, H1, H2, H3, H4, H5, H6, H7, H8, H9, H10, H11, H12, H13, H14, H15, H16, H17, H18, Hk⟩
  have step : ∃ p, p = (pieces_E (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 x0 x1 x2 x3 x4 x5 x6 x8 x9 x10 x11 x12 x13 x14 x15 x16 x17 x18) := ⟨_, rfl⟩
  obtain ⟨p, hp⟩ := step
  have o7 : ∀ f7, (arg9.view.read (Elt Ideal) (arg9.view.writes (Elt Ideal) f7 p.1)) = yOf b := by
    intro _; rw [hp]
    refine yOf_ext fun r d => (readE_7 (hi := by rw [hj]; decide) (hM := fun c c' => (hst.h16' (by decide) r c).trans (hst.h16' (by decide) r c').symm) ..).trans ?_
    rw [hj, h5, h6]; exact Blk.last_E hst r d
  clear hp
  iapply p.2.2.2 E _
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  iintro ⟨H0, H1, H2, H3, H4, H5, H6, ⟨%f7, H7⟩, H8, H9, H10, H11, H12, H13, H14, H15, H16, H17, H18⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iapply (owns_read_of c arg9 _ _ (o7 f7)); iexact H7
  isplitl [H8]
  · iexact H8
  isplitl [H9]
  · iexact H9
  isplitl [H10]
  · iexact H10
  isplitl [H11]
  · iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iapply (owns_read_of c arg19 _ _ rfl); iexact H17
  iexists _; iapply (owns_read_of c arg20 _ _ rfl); iexact H18

end Cert.KernelIdeal.Own
-- ==== Proof.Exact.lean ====
/-
  What the idealized kernel's body leaves at every grid point, and the run of the whole program: the pipeline's proof data name
  the five outputs' contents, the invariant says how far the batch's scores and running sums have come.
-/
module

public import proofs.«01_k».proof.Proof.StepA
public import proofs.«01_k».proof.Proof.StepB
public import proofs.«01_k».proof.Proof.StepC
public import proofs.«01_k».proof.Proof.StepD
public import proofs.«01_k».proof.Proof.StepE
public import Idealize.ShloMosaic.Lib.Claim
public import Idealize.ShloMosaic.Lib.Pipeline.TableIdle

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Grid points, by number. -/
def pt (n : ℕ) : Fin cfg0.N := ⟨n % 128, lt_of_lt_of_eq (Nat.mod_lt _ (by decide)) N_0.symm⟩

theorem pt_val (t : Fin cfg0.N) (n : ℕ) (h : n = t.val) : pt n = t := by
  subst h; exact Fin.ext (Nat.mod_eq_of_lt (lt_of_lt_of_eq t.isLt N_0))

/-- What a batch reads: its queries and new rows, its key tiles (scored at its points 0 to 7) and its value tiles (read at 8 to 15). -/
def blk (c : Dev nD) (n : ℕ) : Blk where
  q := iblk m c 0 (pt (16 * n))
  kn := iblk m c 1 (pt (16 * n))
  vn := iblk m c 2 (pt (16 * n))
  kc j := iblk m c 3 (pt (16 * n + j))
  ks j := iblk m c 4 (pt (16 * n + j))
  vc j := iblk m c 5 (pt (16 * n + 8 + j))
  vs j := iblk m c 6 (pt (16 * n + 8 + j))

theorem blk_q (c : Dev nD) (t : Fin cfg0.N) (b : ℕ) (h : 16 * b = t.val) : iblk m c 0 t = (blk m c b).q := by
  rw [← pt_val t _ h]; rfl
theorem blk_kn (c : Dev nD) (t : Fin cfg0.N) (b : ℕ) (h : 16 * b = t.val) : iblk m c 1 t = (blk m c b).kn := by
  rw [← pt_val t _ h]; rfl
theorem blk_vn (c : Dev nD) (t : Fin cfg0.N) (b : ℕ) (h : 16 * b = t.val) : iblk m c 2 t = (blk m c b).vn := by
  rw [← pt_val t _ h]; rfl
theorem blk_kc (c : Dev nD) (t : Fin cfg0.N) (b j : ℕ) (h : 16 * b + j = t.val) : iblk m c 3 t = (blk m c b).kc j := by
  rw [← pt_val t _ h]; rfl
theorem blk_ks (c : Dev nD) (t : Fin cfg0.N) (b j : ℕ) (h : 16 * b + j = t.val) : iblk m c 4 t = (blk m c b).ks j := by
  rw [← pt_val t _ h]; rfl
theorem blk_vc (c : Dev nD) (t : Fin cfg0.N) (b j : ℕ) (h : 16 * b + 8 + j = t.val) : iblk m c 5 t = (blk m c b).vc j := by
  rw [← pt_val t _ h]; rfl
theorem blk_vs (c : Dev nD) (t : Fin cfg0.N) (b j : ℕ) (h : 16 * b + 8 + j = t.val) : iblk m c 6 t = (blk m c b).vs j := by
  rw [← pt_val t _ h]; rfl

/-- The invariant before point `n`: at a batch's start nothing is known of the scratch, later it holds what `Blk.St` says. -/
def PhiV (c : Dev nD) (n : ℕ) : sProp 𝕄 :=
  if n % 16 = 0 then Pipeline.ΦA spec0 c
  else iprop((∃ x12 x13 x14 x15 x16 x17 x18, ⌜(blk m c (n / 16)).St (n % 16) x12 x13 x14 x15 x16 x17 x18⌝ ∗ owns (c : Thread nD τ) scM0_0 fullShare x12 ∗ owns (c : Thread nD τ) scM0_1 fullShare x13 ∗ owns (c : Thread nD τ) scM0_2 fullShare x14 ∗ owns (c : Thread nD τ) scM0_3 fullShare x15 ∗ owns (c : Thread nD τ) scM0_4 fullShare x16 ∗ owns (c : Thread nD τ) scM0_5 fullShare x17 ∗ owns (c : Thread nD τ) scM0_6 fullShare x18) ∗ (∃ r, prngReg c r))

theorem PhiV_start (c : Dev nD) (n : ℕ) (h : n % 16 = 0) : PhiV m c n = Pipeline.ΦA spec0 c := if_pos h

theorem PhiV_mid (c : Dev nD) (n b j : ℕ) (hj : 0 < j) (hj' : j < 16) (h : n = 16 * b + j) :
    PhiV m c n = iprop((∃ x12 x13 x14 x15 x16 x17 x18, ⌜(blk m c b).St j x12 x13 x14 x15 x16 x17 x18⌝ ∗ owns (c : Thread nD τ) scM0_0 fullShare x12 ∗ owns (c : Thread nD τ) scM0_1 fullShare x13 ∗ owns (c : Thread nD τ) scM0_2 fullShare x14 ∗ owns (c : Thread nD τ) scM0_3 fullShare x15 ∗ owns (c : Thread nD τ) scM0_4 fullShare x16 ∗ owns (c : Thread nD τ) scM0_5 fullShare x17 ∗ owns (c : Thread nD τ) scM0_6 fullShare x18) ∗ (∃ r, prngReg c r)) := by
  have h1 : n / 16 = b := by omega
  have h2 : n % 16 = j := by omega
  unfold PhiV; rw [if_neg (by omega), h1, h2]

/-- The proof data: the arrays as the region finds them; each input's buffer at its block, the outputs' at the batch's results. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOf (blk m c (t.val / 16))
    | ⟨8, _⟩ => kcOf (blk m c (t.val / 16)).kn
    | ⟨9, _⟩ => ksOf (blk m c (t.val / 16)).kn
    | ⟨10, _⟩ => kcOf (blk m c (t.val / 16)).vn
    | ⟨11, _⟩ => ksOf (blk m c (t.val / 16)).vn
  Φ t := PhiV m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yOf (blk m c (t.val / 16)) := by dsimp only [dats]
theorem after0_8 (c : Dev nD) (t : Fin cfg0.N) : (dats m 0 c).after 8 t = kcOf (blk m c (t.val / 16)).kn := by dsimp only [dats]
theorem after0_9 (c : Dev nD) (t : Fin cfg0.N) : (dats m 0 c).after 9 t = ksOf (blk m c (t.val / 16)).kn := by dsimp only [dats]
theorem after0_10 (c : Dev nD) (t : Fin cfg0.N) : (dats m 0 c).after 10 t = kcOf (blk m c (t.val / 16)).vn := by dsimp only [dats]
theorem after0_11 (c : Dev nD) (t : Fin cfg0.N) : (dats m 0 c).after 11 t = ksOf (blk m c (t.val / 16)).vn := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]

theorem idle0_last : ∀ t : Fin cfg0.N, cfg0.idle 7 (grid0.coords t) = !(t.val % 16 == 15) := by decide +kernel
theorem idle0_first_8 : ∀ t : Fin cfg0.N, cfg0.idle 8 (grid0.coords t) = !(t.val % 16 == 0) := by decide +kernel
theorem idle0_first_9 : ∀ t : Fin cfg0.N, cfg0.idle 9 (grid0.coords t) = !(t.val % 16 == 0) := by decide +kernel
theorem idle0_first_10 : ∀ t : Fin cfg0.N, cfg0.idle 10 (grid0.coords t) = !(t.val % 16 == 0) := by decide +kernel
theorem idle0_first_11 : ∀ t : Fin cfg0.N, cfg0.idle 11 (grid0.coords t) = !(t.val % 16 == 0) := by decide +kernel

theorem flush_false {w : Fin cfg0.W} {t : Fin cfg0.N} (h : (cfg0.win w).flush t = true ↔ t.val % 16 = 15) (ht : ¬t.val % 16 = 15) : (cfg0.win w).flush t = false :=
  Bool.eq_false_iff.2 fun e => ht (h.1 e)

theorem leaves0_7_last (c : Dev nD) (t : Fin cfg0.N) (h : t.val % 16 = 15) :
    (dats m 0 c).leavesExact 7 t = owns (c : Thread nD τ) (ms0_7 t) fullShare (yOf (blk m c (t.val / 16))) := by
  unfold Dat.leavesExact; rw [idle0_last, h]; simp only [after0_7]; rfl

theorem leaves0_7_mid (c : Dev nD) (t : Fin cfg0.N) (h : ¬t.val % 16 = 15) :
    (dats m 0 c).leavesExact 7 t = iprop(∃ d, owns (c : Thread nD τ) (ms0_7 t) fullShare ((dats m 0 c).before 7 t d)) :=
  Dat.leavesExact_idle (dats m 0 c) 7 t (by rw [idle0_last]; simpa using h) (flush_false (flush0_7 t) h)

theorem fresh0_8 (n : ℕ) (hn : n ≤ cfg0.N) : cfg0.fresh 8 n = (n % 16 == 0) :=
  Pipeline.Cfg.fresh_tab cfg0 8 (fun n => n % 16 == 0) rfl (by decide +kernel) n hn

/-- Once written, the window keeps its contents until the batch ends. -/
theorem before0_8 (c : Dev nD) (t : Fin cfg0.N) (h : ¬t.val % 16 = 0) (d) : (dats m 0 c).before 8 t d = kcOf (blk m c (t.val / 16)).kn := by
  rw [Pipeline.Dat.before_out_traj (dats m 0 c) 8 rfl (fun _ _ => rfl) (fun t ht hi _ => by
    rw [after0_8, after0_8]
    rw [idle0_first_8] at hi
    have h' : ¬t.val % 16 = 0 := by simpa using hi
    have e : (t.val - 1) / 16 = t.val / 16 := by omega
    rw [e]) t.val t rfl d, fresh0_8 _ (Nat.le_of_lt t.isLt), if_neg (by simpa using h), after0_8]
  have e : (t.val - 1) / 16 = t.val / 16 := by omega
  rw [e]

theorem leaves0_8_first (c : Dev nD) (t : Fin cfg0.N) (h : t.val % 16 = 0) :
    (dats m 0 c).leavesExact 8 t = owns (c : Thread nD τ) (ms0_8 t) fullShare (kcOf (blk m c (t.val / 16)).kn) := by
  unfold Dat.leavesExact; rw [idle0_first_8, h]; simp only [after0_8]; rfl

theorem leaves0_8_mid (c : Dev nD) (t : Fin cfg0.N) (h : ¬t.val % 16 = 0) (h' : ¬t.val % 16 = 15) :
    (dats m 0 c).leavesExact 8 t = iprop(∃ d, owns (c : Thread nD τ) (ms0_8 t) fullShare ((dats m 0 c).before 8 t d)) :=
  Dat.leavesExact_idle (dats m 0 c) 8 t (by rw [idle0_first_8]; simpa using h) (flush_false (flush0_8 t) h')

theorem leaves0_8_last (c : Dev nD) (t : Fin cfg0.N) (h' : t.val % 16 = 15) :
    (dats m 0 c).leavesExact 8 t = owns (c : Thread nD τ) (ms0_8 t) fullShare (kcOf (blk m c (t.val / 16)).kn) := by
  unfold Dat.leavesExact; rw [idle0_first_8, (flush0_8 t).2 h', h']; simp only [after0_8]; rfl

theorem fresh0_9 (n : ℕ) (hn : n ≤ cfg0.N) : cfg0.fresh 9 n = (n % 16 == 0) :=
  Pipeline.Cfg.fresh_tab cfg0 9 (fun n => n % 16 == 0) rfl (by decide +kernel) n hn

/-- Once written, the window keeps its contents until the batch ends. -/
theorem before0_9 (c : Dev nD) (t : Fin cfg0.N) (h : ¬t.val % 16 = 0) (d) : (dats m 0 c).before 9 t d = ksOf (blk m c (t.val / 16)).kn := by
  rw [Pipeline.Dat.before_out_traj (dats m 0 c) 9 rfl (fun _ _ => rfl) (fun t ht hi _ => by
    rw [after0_9, after0_9]
    rw [idle0_first_9] at hi
    have h' : ¬t.val % 16 = 0 := by simpa using hi
    have e : (t.val - 1) / 16 = t.val / 16 := by omega
    rw [e]) t.val t rfl d, fresh0_9 _ (Nat.le_of_lt t.isLt), if_neg (by simpa using h), after0_9]
  have e : (t.val - 1) / 16 = t.val / 16 := by omega
  rw [e]

theorem leaves0_9_first (c : Dev nD) (t : Fin cfg0.N) (h : t.val % 16 = 0) :
    (dats m 0 c).leavesExact 9 t = owns (c : Thread nD τ) (ms0_9 t) fullShare (ksOf (blk m c (t.val / 16)).kn) := by
  unfold Dat.leavesExact; rw [idle0_first_9, h]; simp only [after0_9]; rfl

theorem leaves0_9_mid (c : Dev nD) (t : Fin cfg0.N) (h : ¬t.val % 16 = 0) (h' : ¬t.val % 16 = 15) :
    (dats m 0 c).leavesExact 9 t = iprop(∃ d, owns (c : Thread nD τ) (ms0_9 t) fullShare ((dats m 0 c).before 9 t d)) :=
  Dat.leavesExact_idle (dats m 0 c) 9 t (by rw [idle0_first_9]; simpa using h) (flush_false (flush0_9 t) h')

theorem leaves0_9_last (c : Dev nD) (t : Fin cfg0.N) (h' : t.val % 16 = 15) :
    (dats m 0 c).leavesExact 9 t = owns (c : Thread nD τ) (ms0_9 t) fullShare (ksOf (blk m c (t.val / 16)).kn) := by
  unfold Dat.leavesExact; rw [idle0_first_9, (flush0_9 t).2 h', h']; simp only [after0_9]; rfl

theorem fresh0_10 (n : ℕ) (hn : n ≤ cfg0.N) : cfg0.fresh 10 n = (n % 16 == 0) :=
  Pipeline.Cfg.fresh_tab cfg0 10 (fun n => n % 16 == 0) rfl (by decide +kernel) n hn

/-- Once written, the window keeps its contents until the batch ends. -/
theorem before0_10 (c : Dev nD) (t : Fin cfg0.N) (h : ¬t.val % 16 = 0) (d) : (dats m 0 c).before 10 t d = kcOf (blk m c (t.val / 16)).vn := by
  rw [Pipeline.Dat.before_out_traj (dats m 0 c) 10 rfl (fun _ _ => rfl) (fun t ht hi _ => by
    rw [after0_10, after0_10]
    rw [idle0_first_10] at hi
    have h' : ¬t.val % 16 = 0 := by simpa using hi
    have e : (t.val - 1) / 16 = t.val / 16 := by omega
    rw [e]) t.val t rfl d, fresh0_10 _ (Nat.le_of_lt t.isLt), if_neg (by simpa using h), after0_10]
  have e : (t.val - 1) / 16 = t.val / 16 := by omega
  rw [e]

theorem leaves0_10_first (c : Dev nD) (t : Fin cfg0.N) (h : t.val % 16 = 0) :
    (dats m 0 c).leavesExact 10 t = owns (c : Thread nD τ) (ms0_10 t) fullShare (kcOf (blk m c (t.val / 16)).vn) := by
  unfold Dat.leavesExact; rw [idle0_first_10, h]; simp only [after0_10]; rfl

theorem leaves0_10_mid (c : Dev nD) (t : Fin cfg0.N) (h : ¬t.val % 16 = 0) (h' : ¬t.val % 16 = 15) :
    (dats m 0 c).leavesExact 10 t = iprop(∃ d, owns (c : Thread nD τ) (ms0_10 t) fullShare ((dats m 0 c).before 10 t d)) :=
  Dat.leavesExact_idle (dats m 0 c) 10 t (by rw [idle0_first_10]; simpa using h) (flush_false (flush0_10 t) h')

theorem leaves0_10_last (c : Dev nD) (t : Fin cfg0.N) (h' : t.val % 16 = 15) :
    (dats m 0 c).leavesExact 10 t = owns (c : Thread nD τ) (ms0_10 t) fullShare (kcOf (blk m c (t.val / 16)).vn) := by
  unfold Dat.leavesExact; rw [idle0_first_10, (flush0_10 t).2 h', h']; simp only [after0_10]; rfl

theorem fresh0_11 (n : ℕ) (hn : n ≤ cfg0.N) : cfg0.fresh 11 n = (n % 16 == 0) :=
  Pipeline.Cfg.fresh_tab cfg0 11 (fun n => n % 16 == 0) rfl (by decide +kernel) n hn

/-- Once written, the window keeps its contents until the batch ends. -/
theorem before0_11 (c : Dev nD) (t : Fin cfg0.N) (h : ¬t.val % 16 = 0) (d) : (dats m 0 c).before 11 t d = ksOf (blk m c (t.val / 16)).vn := by
  rw [Pipeline.Dat.before_out_traj (dats m 0 c) 11 rfl (fun _ _ => rfl) (fun t ht hi _ => by
    rw [after0_11, after0_11]
    rw [idle0_first_11] at hi
    have h' : ¬t.val % 16 = 0 := by simpa using hi
    have e : (t.val - 1) / 16 = t.val / 16 := by omega
    rw [e]) t.val t rfl d, fresh0_11 _ (Nat.le_of_lt t.isLt), if_neg (by simpa using h), after0_11]
  have e : (t.val - 1) / 16 = t.val / 16 := by omega
  rw [e]

theorem leaves0_11_first (c : Dev nD) (t : Fin cfg0.N) (h : t.val % 16 = 0) :
    (dats m 0 c).leavesExact 11 t = owns (c : Thread nD τ) (ms0_11 t) fullShare (ksOf (blk m c (t.val / 16)).vn) := by
  unfold Dat.leavesExact; rw [idle0_first_11, h]; simp only [after0_11]; rfl

theorem leaves0_11_mid (c : Dev nD) (t : Fin cfg0.N) (h : ¬t.val % 16 = 0) (h' : ¬t.val % 16 = 15) :
    (dats m 0 c).leavesExact 11 t = iprop(∃ d, owns (c : Thread nD τ) (ms0_11 t) fullShare ((dats m 0 c).before 11 t d)) :=
  Dat.leavesExact_idle (dats m 0 c) 11 t (by rw [idle0_first_11]; simpa using h) (flush_false (flush0_11 t) h')

theorem leaves0_11_last (c : Dev nD) (t : Fin cfg0.N) (h' : t.val % 16 = 15) :
    (dats m 0 c).leavesExact 11 t = owns (c : Thread nD τ) (ms0_11 t) fullShare (ksOf (blk m c (t.val / 16)).vn) := by
  unfold Dat.leavesExact; rw [idle0_first_11, (flush0_11 t).2 h', h']; simp only [after0_11]; rfl

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

theorem coord1 (t : Fin cfg0.N) : (grid0.coords t 1).val = t.val % 16 := by
  have e1 : (grid0.coords t 1).val = t.val / 1 % 16 := Pipeline.Grid.coords_val t 1 (by decide) rfl
  rw [e1, Nat.div_one]

/-- The first point of a batch. -/
theorem sound_A (c : Dev nD) (t : Fin cfg0.N) (h0 : t.val % 16 = 0) (h1 : t.val % 16 ≤ 7) (h2 : ¬t.val % 16 = 8) (h3 : ¬8 ≤ t.val % 16) (h4 : ¬t.val % 16 = 15) :
    bodyPre m c t ⊢ wp frame (wpE (defs₀ (F := Ideal)) Variants.none c none) Set.univ (bodyAt0 t) (fun _ => bodyPost m c t) := by
  unfold bodyPre bodyPost bodyAt0
  have hN : t.val < 128 := lt_of_lt_of_eq t.isLt (show cfg0.N = 128 from N_0)
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  rw [PhiV_start m c _ h0, PhiA0_eq]
  rw [PhiV_mid m c (t.val + 1) (t.val / 16) 1 (by omega) (by omega) (by omega)]
  rw [leaves0_7_mid m c t h4]
  rw [leaves0_8_first m c t h0]
  rw [leaves0_9_first m c t h0]
  rw [leaves0_10_first m c t h0]
  rw [leaves0_11_first m c t h0]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (vrun_A c (grid0.coords t) _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) _ _ _ _ _ _ _ _ (blk m c (t.val / 16)) ((coord1 t).trans h0) (blk_q m c t (t.val / 16) (by omega)) (blk_kn m c t (t.val / 16) (by omega)) (blk_vn m c t (t.val / 16) (by omega)) (blk_kc m c t (t.val / 16) 0 (by omega)) (blk_ks m c t (t.val / 16) 0 (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, %y12, %y13, %y14, %y15, %y16, %y17, %y18, %hst2, HS0, HS1, HS2, HS3, HS4, HS5, HS6⟩
  isplitl [HS0 HS1 HS2 HS3 HS4 HS5 HS6 Hg]
  · isplitl [HS0 HS1 HS2 HS3 HS4 HS5 HS6]
    · iexists y12, y13, y14, y15, y16, y17, y18
      isplitr
      · ipureintro; exact hst2
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]; · iexact H9
  isplitl [H10]; · iexact H10
  iexact H11

/-- The later points of the score pass. -/
theorem sound_B (c : Dev nD) (t : Fin cfg0.N) (h0 : ¬t.val % 16 = 0) (h1 : t.val % 16 ≤ 7) (h2 : ¬t.val % 16 = 8) (h3 : ¬8 ≤ t.val % 16) (h4 : ¬t.val % 16 = 15) :
    bodyPre m c t ⊢ wp frame (wpE (defs₀ (F := Ideal)) Variants.none c none) Set.univ (bodyAt0 t) (fun _ => bodyPost m c t) := by
  unfold bodyPre bodyPost bodyAt0
  have hN : t.val < 128 := lt_of_lt_of_eq t.isLt (show cfg0.N = 128 from N_0)
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  rw [PhiV_mid m c _ (t.val / 16) (t.val % 16) (by omega) (by omega) (by omega)]
  rw [PhiV_mid m c (t.val + 1) (t.val / 16) (t.val % 16 + 1) (by omega) (by omega) (by omega)]
  rw [leaves0_7_mid m c t h4]
  rw [leaves0_8_mid m c t h0 h4]
  rw [leaves0_9_mid m c t h0 h4]
  rw [leaves0_10_mid m c t h0 h4]
  rw [leaves0_11_mid m c t h0 h4]
  iintro ⟨⟨⟨%x12, %x13, %x14, %x15, %x16, %x17, %x18, %hst, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (vrun_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) _ _ _ _ _ _ _ _ _ _ _ _ _ _ _ _ _ _ _ (blk m c (t.val / 16)) (t.val % 16) ((coord1 t).trans rfl) h1 (blk_kc m c t (t.val / 16) (t.val % 16) (by omega)) (blk_ks m c t (t.val / 16) (t.val % 16) (by omega)) hst Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, %y12, %y13, %y14, %y15, %y16, %y17, %y18, %hst2, HS0, HS1, HS2, HS3, HS4, HS5, HS6⟩
  isplitl [HS0 HS1 HS2 HS3 HS4 HS5 HS6 Hg]
  · isplitl [HS0 HS1 HS2 HS3 HS4 HS5 HS6]
    · iexists y12, y13, y14, y15, y16, y17, y18
      isplitr
      · ipureintro; exact hst2
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexists d9; iexact H9
  isplitl [H10]; · iexists d10; iexact H10
  iexists d11; iexact H11

/-- The first point of the value pass. -/
theorem sound_C (c : Dev nD) (t : Fin cfg0.N) (h0 : ¬t.val % 16 = 0) (h1 : ¬t.val % 16 ≤ 7) (h2 : t.val % 16 = 8) (h3 : 8 ≤ t.val % 16) (h4 : ¬t.val % 16 = 15) :
    bodyPre m c t ⊢ wp frame (wpE (defs₀ (F := Ideal)) Variants.none c none) Set.univ (bodyAt0 t) (fun _ => bodyPost m c t) := by
  unfold bodyPre bodyPost bodyAt0
  have hN : t.val < 128 := lt_of_lt_of_eq t.isLt (show cfg0.N = 128 from N_0)
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  rw [PhiV_mid m c _ (t.val / 16) 8 (by omega) (by omega) (by omega)]
  rw [PhiV_mid m c (t.val + 1) (t.val / 16) 9 (by omega) (by omega) (by omega)]
  rw [leaves0_7_mid m c t h4]
  rw [leaves0_8_mid m c t h0 h4]
  rw [leaves0_9_mid m c t h0 h4]
  rw [leaves0_10_mid m c t h0 h4]
  rw [leaves0_11_mid m c t h0 h4]
  iintro ⟨⟨⟨%x12, %x13, %x14, %x15, %x16, %x17, %x18, %hst, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (vrun_C c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (fun h => h4 ((hcond0_4 t).mp h)) _ _ _ _ _ _ _ _ _ _ _ _ _ _ _ _ _ _ _ (blk m c (t.val / 16)) ((coord1 t).trans h2) (blk_vc m c t (t.val / 16) 0 (by omega)) (blk_vs m c t (t.val / 16) 0 (by omega)) hst Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, %y12, %y13, %y14, %y15, %y16, %y17, %y18, %hst2, HS0, HS1, HS2, HS3, HS4, HS5, HS6⟩
  isplitl [HS0 HS1 HS2 HS3 HS4 HS5 HS6 Hg]
  · isplitl [HS0 HS1 HS2 HS3 HS4 HS5 HS6]
    · iexists y12, y13, y14, y15, y16, y17, y18
      isplitr
      · ipureintro; exact hst2
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexists d9; iexact H9
  isplitl [H10]; · iexists d10; iexact H10
  iexists d11; iexact H11

/-- The later points of the value pass. -/
theorem sound_D (c : Dev nD) (t : Fin cfg0.N) (h0 : ¬t.val % 16 = 0) (h1 : ¬t.val % 16 ≤ 7) (h2 : ¬t.val % 16 = 8) (h3 : 8 ≤ t.val % 16) (h4 : ¬t.val % 16 = 15) :
    bodyPre m c t ⊢ wp frame (wpE (defs₀ (F := Ideal)) Variants.none c none) Set.univ (bodyAt0 t) (fun _ => bodyPost m c t) := by
  unfold bodyPre bodyPost bodyAt0
  have hN : t.val < 128 := lt_of_lt_of_eq t.isLt (show cfg0.N = 128 from N_0)
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  rw [PhiV_mid m c _ (t.val / 16) (t.val % 16) (by omega) (by omega) (by omega)]
  rw [PhiV_mid m c (t.val + 1) (t.val / 16) (t.val % 16 + 1) (by omega) (by omega) (by omega)]
  rw [leaves0_7_mid m c t h4]
  rw [leaves0_8_mid m c t h0 h4]
  rw [leaves0_9_mid m c t h0 h4]
  rw [leaves0_10_mid m c t h0 h4]
  rw [leaves0_11_mid m c t h0 h4]
  iintro ⟨⟨⟨%x12, %x13, %x14, %x15, %x16, %x17, %x18, %hst, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (vrun_D c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) _ _ _ _ _ _ _ _ _ _ _ _ _ _ _ _ _ _ _ (blk m c (t.val / 16)) (t.val % 16) ((coord1 t).trans rfl) (by omega) (by omega) (blk_vc m c t (t.val / 16) (t.val % 16 - 8) (by omega)) (blk_vs m c t (t.val / 16) (t.val % 16 - 8) (by omega)) hst Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, %y12, %y13, %y14, %y15, %y16, %y17, %y18, %hst2, HS0, HS1, HS2, HS3, HS4, HS5, HS6⟩
  isplitl [HS0 HS1 HS2 HS3 HS4 HS5 HS6 Hg]
  · isplitl [HS0 HS1 HS2 HS3 HS4 HS5 HS6]
    · iexists y12, y13, y14, y15, y16, y17, y18
      isplitr
      · ipureintro; exact hst2
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexists d8; iexact H8
  isplitl [H9]; · iexists d9; iexact H9
  isplitl [H10]; · iexists d10; iexact H10
  iexists d11; iexact H11

/-- The last point of a batch. -/
theorem sound_E (c : Dev nD) (t : Fin cfg0.N) (h0 : ¬t.val % 16 = 0) (h1 : ¬t.val % 16 ≤ 7) (h2 : ¬t.val % 16 = 8) (h3 : 8 ≤ t.val % 16) (h4 : t.val % 16 = 15) :
    bodyPre m c t ⊢ wp frame (wpE (defs₀ (F := Ideal)) Variants.none c none) Set.univ (bodyAt0 t) (fun _ => bodyPost m c t) := by
  unfold bodyPre bodyPost bodyAt0
  have hN : t.val < 128 := lt_of_lt_of_eq t.isLt (show cfg0.N = 128 from N_0)
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiV m c (t.val + 1) from rfl, show (dats m 0 c).Φ t.castSucc = PhiV m c t.val from rfl]
  rw [PhiV_mid m c _ (t.val / 16) 15 (by omega) (by omega) (by omega)]
  rw [PhiV_start m c _ (show (t.val + 1) % 16 = 0 by omega), PhiA0_eq]
  rw [leaves0_7_last m c t h4]
  rw [leaves0_8_last m c t h4]
  rw [leaves0_9_last m c t h4]
  rw [leaves0_10_last m c t h4]
  rw [leaves0_11_last m c t h4]
  simp only [before0_8 m c t h0, before0_9 m c t h0, before0_10 m c t h0, before0_11 m c t h0]
  iintro ⟨⟨⟨%x12, %x13, %x14, %x15, %x16, %x17, %x18, %hst, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (vrun_E c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) _ _ _ _ _ _ _ _ _ _ _ _ _ _ _ _ _ _ (blk m c (t.val / 16)) ((coord1 t).trans h4) (blk_vc m c t (t.val / 16) 7 (by omega)) (blk_vs m c t (t.val / 16) 7 (by omega)) hst Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem sound_body (c : Dev nD) (t : Fin cfg0.N) :
    bodyPre m c t ⊢ wp frame (wpE (defs₀ (F := Ideal)) Variants.none c none) Set.univ (bodyAt0 t) (fun _ => bodyPost m c t) := by
  rcases (show (t.val % 16 = 0 ∧ t.val % 16 ≤ 7 ∧ ¬t.val % 16 = 8 ∧ ¬8 ≤ t.val % 16 ∧ ¬t.val % 16 = 15)
      ∨ (¬t.val % 16 = 0 ∧ t.val % 16 ≤ 7 ∧ ¬t.val % 16 = 8 ∧ ¬8 ≤ t.val % 16 ∧ ¬t.val % 16 = 15)
      ∨ (¬t.val % 16 = 0 ∧ ¬t.val % 16 ≤ 7 ∧ t.val % 16 = 8 ∧ 8 ≤ t.val % 16 ∧ ¬t.val % 16 = 15)
      ∨ (¬t.val % 16 = 0 ∧ ¬t.val % 16 ≤ 7 ∧ ¬t.val % 16 = 8 ∧ 8 ≤ t.val % 16 ∧ ¬t.val % 16 = 15)
      ∨ (¬t.val % 16 = 0 ∧ ¬t.val % 16 ≤ 7 ∧ ¬t.val % 16 = 8 ∧ 8 ≤ t.val % 16 ∧ t.val % 16 = 15) by omega) with
    ⟨h0, h1, h2, h3, h4⟩ | ⟨h0, h1, h2, h3, h4⟩ | ⟨h0, h1, h2, h3, h4⟩ | ⟨h0, h1, h2, h3, h4⟩ | ⟨h0, h1, h2, h3, h4⟩
  · exact sound_A m c t h0 h1 h2 h3 h4
  · exact sound_B m c t h0 h1 h2 h3 h4
  · exact sound_C m c t h0 h1 h2 h3 h4
  · exact sound_D m c t h0 h1 h2 h3 h4
  · exact sound_E m c t h0 h1 h2 h3 h4

/-- The body table's row at point `t`'s slots is the body as `bodyAt0` spells it. -/
theorem body_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = PhiV m c 0 from rfl, PhiV_start m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiV m c cfg0.N from rfl, PhiV_start m c _ (by rw [show cfg0.N = 128 from N_0])]
  try exact Idealize.SL.BI.Entails.refl _

set_option backward.isDefEq.respectTransparency.types false in
set_option maxHeartbeats 800000 in
/-- The run: every array of the pipeline ends at what the proof data say, every other buffer as the lines after the region leave it. -/
theorem run_main : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Own
-- ==== Proof.Arrays.lean ====
/-
  The idealized kernel's arrays around its loop: what each block it reads holds in terms of the arguments, and what its five result
  arrays and the host program's results hold in terms of each batch's blocks.
-/
module

public import proofs.«01_k».proof.Proof.Exact
public import Idealize.ShloMosaic.Lib.Pipeline.ValueKit.Geometry

@[expose] public section

set_option maxRecDepth 16384

noncomputable section

namespace Cert.KernelIdeal.Own

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The host program before the loop -/

/-- The queries, a row per head, step and group member. -/
def qT (x : FVec Ideal S8x4x16384 .bf16) : FVec Ideal S8x512x128 .bf16 :=
  shapeCast _ (transpose S8x8x4x16x128 [0, 2, 1, 3, 4] (shapeCast _ x shapeCasts_S8x4x16384_S8x4x8x16x128) transposes_S8x4x8x16x128_S8x8x4x16x128_0_2_1_3_4) shapeCasts_S8x8x4x16x128_S8x512x128

/-- A cache's scales, a row per head. -/
def sT (x : FVec Ideal S8x8192x8 .f32) : FVec Ideal S8x8x8192 .f32 :=
  transpose S8x8x8192 [0, 2, 1] x transposes_S8x8192x8_S8x8x8192_0_2_1

/-- The new rows, a row per step and head. -/
def nT (x : FVec Ideal S8x4x8x128 .bf16) : FVec Ideal S8x32x128 .bf16 :=
  shapeCast _ x shapeCasts_S8x4x8x128_S8x32x128

theorem qT_apply (x : FVec Ideal S8x4x16384 .bf16) (b : Fin 8) (r : Fin 512) (d : Fin 128) :
    qT x (ix3 b r d) = x (ix3 b ⟨r.val % 64 / 16, by omega⟩ ⟨r.val / 64 * 2048 + r.val % 16 * 128 + d.val, by omega⟩) := by
  have e : (⟨r.val % 64 / 16, by omega⟩ : Fin 4) = ⟨r.val / 16 % 4, by omega⟩ := Fin.ext (by show r.val % 64 / 16 = r.val / 16 % 4; omega)
  rw [e]
  pointwise [qT]

theorem sT_apply (x : FVec Ideal S8x8192x8 .f32) (b h : Fin 8) (t : Fin 8192) : sT x (ix3 b h t) = x (ix3 b t h) := by
  pointwise [sT]

theorem nT_apply (x : FVec Ideal S8x4x8x128 .bf16) (b : Fin 8) (n : Fin 32) (d : Fin 128) :
    nT x (ix3 b n d) = x (ix4 b ⟨n.val / 8, by omega⟩ ⟨n.val % 8, by omega⟩ d) := by
  pointwise [nT]

theorem V_v2 (c : Dev nD) : V m c main_v2 = qT (m ((c : Thread nD τ).loc main_arg0)) := by
  show StableHlo.after hostOps0 _ (Proc.devRef .tc main_v2) = _
  after_results
  rfl

theorem V_v3 (c : Dev nD) : V m c main_v3 = sT (m ((c : Thread nD τ).loc main_arg4)) := by
  show StableHlo.after hostOps0 _ (Proc.devRef .tc main_v3) = _
  after_results
  rfl

theorem V_v4 (c : Dev nD) : V m c main_v4 = sT (m ((c : Thread nD τ).loc main_arg6)) := by
  show StableHlo.after hostOps0 _ (Proc.devRef .tc main_v4) = _
  after_results
  rfl

theorem V_v5 (c : Dev nD) : V m c main_v5 = nT (m ((c : Thread nD τ).loc main_arg1)) := by
  show StableHlo.after hostOps0 _ (Proc.devRef .tc main_v5) = _
  after_results
  rfl

theorem V_v6 (c : Dev nD) : V m c main_v6 = nT (m ((c : Thread nD τ).loc main_arg2)) := by
  show StableHlo.after hostOps0 _ (Proc.devRef .tc main_v6) = _
  after_results
  rfl

/-! ## Blocks -/

theorem index0 : ∀ t : Fin cfg0.N, win0_0.index t = ![t.val / 16, 0, 0] := (by decide +kernel : ∀ t : Fin grid0.N, _)
theorem index1 : ∀ t : Fin cfg0.N, win0_1.index t = ![t.val / 16, 0, 0] := (by decide +kernel : ∀ t : Fin grid0.N, _)
theorem index2 : ∀ t : Fin cfg0.N, win0_2.index t = ![t.val / 16, 0, 0] := (by decide +kernel : ∀ t : Fin grid0.N, _)
theorem index3 : ∀ t : Fin cfg0.N, win0_3.index t = ![t.val / 16, min (t.val % 16) 7, 0, 0] := (by decide +kernel : ∀ t : Fin grid0.N, _)
theorem index4 : ∀ t : Fin cfg0.N, win0_4.index t = ![t.val / 16, 0, min (t.val % 16) 7] := (by decide +kernel : ∀ t : Fin grid0.N, _)
theorem index5 : ∀ t : Fin cfg0.N, win0_5.index t = ![t.val / 16, t.val % 16 - 8, 0, 0] := (by decide +kernel : ∀ t : Fin grid0.N, _)
theorem index6 : ∀ t : Fin cfg0.N, win0_6.index t = ![t.val / 16, 0, t.val % 16 - 8] := (by decide +kernel : ∀ t : Fin grid0.N, _)
theorem index7 : ∀ t : Fin cfg0.N, win0_7.index t = ![t.val / 16, 0, 0] := (by decide +kernel : ∀ t : Fin grid0.N, _)
theorem index8 : ∀ t : Fin cfg0.N, win0_8.index t = ![t.val / 16, 0, 0] := (by decide +kernel : ∀ t : Fin grid0.N, _)
theorem index9 : ∀ t : Fin cfg0.N, win0_9.index t = ![t.val / 16, 0, 0] := (by decide +kernel : ∀ t : Fin grid0.N, _)
theorem index10 : ∀ t : Fin cfg0.N, win0_10.index t = ![t.val / 16, 0, 0] := (by decide +kernel : ∀ t : Fin grid0.N, _)
theorem index11 : ∀ t : Fin cfg0.N, win0_11.index t = ![t.val / 16, 0, 0] := (by decide +kernel : ∀ t : Fin grid0.N, _)

theorem iblk0_apply (c : Dev nD) (t : Fin cfg0.N) (b : Fin 8) (hb : b.val = t.val / 16) (r : Fin 512) (d : Fin 128) :
    (iblk m c 0 t : FVec Ideal S1x512x128 .bf16) (ix3 0 r d) = qT (m ((c : Thread nD τ).loc main_arg0)) (ix3 b r d) := by
  rw [← V_v2]
  blk_simp [iblk, index0]
  refine congrArg (V m c main_v2) ?_
  blk_ext [index0, hb]

theorem iblk1_apply (c : Dev nD) (t : Fin cfg0.N) (b : Fin 8) (hb : b.val = t.val / 16) (r : Fin 32) (d : Fin 128) :
    (iblk m c 1 t : FVec Ideal S1x32x128 .bf16) (ix3 0 r d) = nT (m ((c : Thread nD τ).loc main_arg1)) (ix3 b r d) := by
  rw [← V_v5]
  blk_simp [iblk, index1]
  refine congrArg (V m c main_v5) ?_
  blk_ext [index1, hb]

theorem iblk2_apply (c : Dev nD) (t : Fin cfg0.N) (b : Fin 8) (hb : b.val = t.val / 16) (r : Fin 32) (d : Fin 128) :
    (iblk m c 2 t : FVec Ideal S1x32x128 .bf16) (ix3 0 r d) = nT (m ((c : Thread nD τ).loc main_arg2)) (ix3 b r d) := by
  rw [← V_v6]
  blk_simp [iblk, index2]
  refine congrArg (V m c main_v6) ?_
  blk_ext [index2, hb]

theorem iblk3_apply (c : Dev nD) (t : Fin cfg0.N) (b : Fin 8) (hb : b.val = t.val / 16) (j : ℕ) (hj : min (t.val % 16) 7 = j) (u : Fin 1024) (h : Fin 8) (d : Fin 128) (hu : 1024 * j + u.val < 8192) :
    (iblk m c 3 t : IVec S1x1024x8x128 8) (ix4 0 u h d) = ((m ((c : Thread nD τ).loc main_arg3)) : IVec S8x8192x8x128 8) (ix4 b ⟨1024 * j + u.val, hu⟩ h d) := by
  rw [← V_main_arg3 m c]
  blk_simp [iblk, index3]
  refine congrArg (V m c main_arg3) ?_
  blk_ext [index3, hb, hj]

theorem iblk4_apply (c : Dev nD) (t : Fin cfg0.N) (b : Fin 8) (hb : b.val = t.val / 16) (j : ℕ) (hj : min (t.val % 16) 7 = j) (h : Fin 8) (u : Fin 1024) (hu : 1024 * j + u.val < 8192) :
    (iblk m c 4 t : FVec Ideal S1x8x1024 .f32) (ix3 0 h u) = sT (m ((c : Thread nD τ).loc main_arg4)) (ix3 b h ⟨1024 * j + u.val, hu⟩) := by
  rw [← V_v3]
  blk_simp [iblk, index4]
  refine congrArg (V m c main_v3) ?_
  blk_ext [index4, hb, hj]

theorem iblk5_apply (c : Dev nD) (t : Fin cfg0.N) (b : Fin 8) (hb : b.val = t.val / 16) (j : ℕ) (hj : t.val % 16 - 8 = j) (u : Fin 1024) (h : Fin 8) (d : Fin 128) (hu : 1024 * j + u.val < 8192) :
    (iblk m c 5 t : IVec S1x1024x8x128 8) (ix4 0 u h d) = ((m ((c : Thread nD τ).loc main_arg5)) : IVec S8x8192x8x128 8) (ix4 b ⟨1024 * j + u.val, hu⟩ h d) := by
  rw [← V_main_arg5 m c]
  blk_simp [iblk, index5]
  refine congrArg (V m c main_arg5) ?_
  blk_ext [index5, hb, hj]

theorem iblk6_apply (c : Dev nD) (t : Fin cfg0.N) (b : Fin 8) (hb : b.val = t.val / 16) (j : ℕ) (hj : t.val % 16 - 8 = j) (h : Fin 8) (u : Fin 1024) (hu : 1024 * j + u.val < 8192) :
    (iblk m c 6 t : FVec Ideal S1x8x1024 .f32) (ix3 0 h u) = sT (m ((c : Thread nD τ).loc main_arg6)) (ix3 b h ⟨1024 * j + u.val, hu⟩) := by
  rw [← V_v4]
  blk_simp [iblk, index6]
  refine congrArg (V m c main_v4) ?_
  blk_ext [index6, hb, hj]

/-! ## The result arrays -/

/-- The outputs, a row per batch and query row. -/
def arrY (c : Dev nD) : FVec Ideal S8x512x128 .bf16 := fun i => (blk m c (i 0).val).Y (i 1) (i 2)
/-- New rows' codes, -/
def arrC (x : ℕ → FVec Ideal S1x32x128 .bf16) : IVec S8x32x128 8 := fun i => kcOf (x (i 0).val) (ix3 0 (i 1) (i 2))
/-- and their scales. -/
def arrS (x : ℕ → FVec Ideal S1x32x128 .bf16) : FVec Ideal S8x32x1 .f32 := fun i => ksOf (x (i 0).val) (ix3 0 (i 1) (i 2))

theorem t16_lt (t : Fin cfg0.N) : t.val / 16 < 8 := by
  have := lt_of_lt_of_eq t.isLt (show cfg0.N = 128 from N_0); omega

theorem final7 (c : Dev nD) : (dats m 0 c).arrAt 7 cfg0.N = (arrY m c) := by
  refine (dats m 0 c).arrAt_eq_of_covers 7 _ (by decide +kernel) fun t hf y => ?_
  blk_simp
  rw [after0_7]
  have e : (win0_7.blk t).view.emb y = (ix3 ⟨t.val / 16, t16_lt t⟩ (y 1) (y 2) : S8x512x128.Idx) := by
    blk_ext [index7]
  rw [e]
  rfl

theorem final8 (c : Dev nD) : (dats m 0 c).arrAt 8 cfg0.N = (arrC fun b => (blk m c b).kn) := by
  refine (dats m 0 c).arrAt_eq_of_covers 8 _ (by decide +kernel) fun t hf y => ?_
  blk_simp
  rw [after0_8]
  have e : (win0_8.blk t).view.emb y = (ix3 ⟨t.val / 16, t16_lt t⟩ (y 1) (y 2) : S8x32x128.Idx) := by
    blk_ext [index8]
  rw [e]
  rfl

theorem final9 (c : Dev nD) : (dats m 0 c).arrAt 9 cfg0.N = (arrS fun b => (blk m c b).kn) := by
  refine (dats m 0 c).arrAt_eq_of_covers 9 _ (by decide +kernel) fun t hf y => ?_
  blk_simp
  rw [after0_9]
  have e : (win0_9.blk t).view.emb y = (ix3 ⟨t.val / 16, t16_lt t⟩ (y 1) (y 2) : S8x32x1.Idx) := by
    blk_ext [index9]
  rw [e]
  rfl

theorem final10 (c : Dev nD) : (dats m 0 c).arrAt 10 cfg0.N = (arrC fun b => (blk m c b).vn) := by
  refine (dats m 0 c).arrAt_eq_of_covers 10 _ (by decide +kernel) fun t hf y => ?_
  blk_simp
  rw [after0_10]
  have e : (win0_10.blk t).view.emb y = (ix3 ⟨t.val / 16, t16_lt t⟩ (y 1) (y 2) : S8x32x128.Idx) := by
    blk_ext [index10]
  rw [e]
  rfl

theorem final11 (c : Dev nD) : (dats m 0 c).arrAt 11 cfg0.N = (arrS fun b => (blk m c b).vn) := by
  refine (dats m 0 c).arrAt_eq_of_covers 11 _ (by decide +kernel) fun t hf y => ?_
  blk_simp
  rw [after0_11]
  have e : (win0_11.blk t).view.emb y = (ix3 ⟨t.val / 16, t16_lt t⟩ (y 1) (y 2) : S8x32x1.Idx) := by
    blk_ext [index11]
  rw [e]
  rfl

/-! ## The host program after the loop -/

/-- The outputs in the caller's layout. -/
def yT (x : FVec Ideal S8x512x128 .bf16) : FVec Ideal S8x4x16384 .bf16 :=
  shapeCast _ (transpose S8x4x8x16x128 [0, 2, 1, 3, 4] (shapeCast _ x shapeCasts_S8x512x128_S8x8x4x16x128) transposes_S8x8x4x16x128_S8x4x8x16x128_0_2_1_3_4) shapeCasts_S8x4x8x16x128_S8x4x16384

/-- The codes in the caller's layout, -/
def cT (x : IVec S8x32x128 8) : IVec S8x4x8x128 8 := shapeCast _ x shapeCasts_S8x32x128_S8x4x8x128

/-- and the scales. -/
def scT (x : FVec Ideal S8x32x1 .f32) : FVec Ideal S8x4x8 .f32 := shapeCast _ x shapeCasts_S8x32x1_S8x4x8

theorem yT_apply (x : FVec Ideal S8x512x128 .bf16) (b : Fin 8) (s : Fin 4) (h : Fin 8) (g : Fin 16) (d : Fin 128) :
    yT x (ix3 b s ⟨2048 * h.val + 128 * g.val + d.val, by omega⟩) = x (ix3 b ⟨h.val * 64 + s.val * 16 + g.val, by omega⟩ d) := by
  pointwise [yT]

theorem cT_apply (x : IVec S8x32x128 8) (b : Fin 8) (s : Fin 4) (h : Fin 8) (d : Fin 128) :
    cT x (ix4 b s h d) = x (ix3 b ⟨s.val * 8 + h.val, by omega⟩ d) := by
  pointwise [cT]

theorem scT_apply (x : FVec Ideal S8x32x1 .f32) (b : Fin 8) (s : Fin 4) (h : Fin 8) :
    scT x (ix3 b s h) = x (ix3 b ⟨s.val * 8 + h.val, by omega⟩ 0) := by
  pointwise [scT]

theorem arr_inj : Function.Injective (Pipeline.arrRef spec0) := by decide

theorem W_v10 (c : Dev nD) : Pipeline.afterTail₀ cfgs (dats m) 0 (V0 m) [hostOps1] c main_v10 = yT (arrY m c) := by
  rw [← final7]
  unfold Pipeline.afterTail₀
  show StableHlo.after hostOps1 _ (Proc.devRef .tc main_v10) = _
  after_results
  exact congrArg yT (Pipeline.withArrays_arr spec0 arr_inj c _ _ 7)

theorem W_v11 (c : Dev nD) : Pipeline.afterTail₀ cfgs (dats m) 0 (V0 m) [hostOps1] c main_v11 = cT (arrC fun b => (blk m c b).kn) := by
  rw [← final8]
  unfold Pipeline.afterTail₀
  show StableHlo.after hostOps1 _ (Proc.devRef .tc main_v11) = _
  after_results
  exact congrArg cT (Pipeline.withArrays_arr spec0 arr_inj c _ _ 8)

theorem W_v12 (c : Dev nD) : Pipeline.afterTail₀ cfgs (dats m) 0 (V0 m) [hostOps1] c main_v12 = scT (arrS fun b => (blk m c b).kn) := by
  rw [← final9]
  unfold Pipeline.afterTail₀
  show StableHlo.after hostOps1 _ (Proc.devRef .tc main_v12) = _
  after_results
  exact congrArg scT (Pipeline.withArrays_arr spec0 arr_inj c _ _ 9)

theorem W_v13 (c : Dev nD) : Pipeline.afterTail₀ cfgs (dats m) 0 (V0 m) [hostOps1] c main_v13 = cT (arrC fun b => (blk m c b).vn) := by
  rw [← final10]
  unfold Pipeline.afterTail₀
  show StableHlo.after hostOps1 _ (Proc.devRef .tc main_v13) = _
  after_results
  exact congrArg cT (Pipeline.withArrays_arr spec0 arr_inj c _ _ 10)

theorem W_v14 (c : Dev nD) : Pipeline.afterTail₀ cfgs (dats m) 0 (V0 m) [hostOps1] c main_v14 = scT (arrS fun b => (blk m c b).vn) := by
  rw [← final11]
  unfold Pipeline.afterTail₀
  show StableHlo.after hostOps1 _ (Proc.devRef .tc main_v14) = _
  after_results
  exact congrArg scT (Pipeline.withArrays_arr spec0 arr_inj c _ _ 11)

end Cert.KernelIdeal.Own
-- ==== Proof.Softmax.lean ====
/-
  One output element of a batch as a plain softmax average over the 8196 tokens: the lane sums, the spread query and the masked
  lanes of the kernel's arithmetic regrouped.
-/
module

public import proofs.«01_k».proof.Proof.Inv

@[expose] public section

set_option maxRecDepth 16384

noncomputable section

namespace Cert.KernelIdeal.Own

open Idealize.ShloMosaic Idealize.ShloMosaic.TcCoe Idealize.SL.Sem
open Cert.KernelIdeal Cert.KernelIdeal.Gen

/-! ## Weights -/

/-- The softmax scale. -/
def rsd : ℝ := (Real.sqrt 128)⁻¹

theorem rsd_pos : 0 < rsd := by unfold rsd; positivity

theorem rsd_const : Ideal.div 1 (Ideal.sqrt (Ideal.ofBits FTy.f32 1124073472#32)) = (rsd : EReal) := by
  have h : Ideal.ofBits FTy.f32 1124073472#32 = ((128 : ℝ) : EReal) := by
    simp [Ideal.ofBits, Ideal.ieee]; rw [← EReal.coe_mul]; norm_num
  have hs : (Real.sqrt 128 : ℝ) ≠ 0 := by positivity
  rw [h]
  show Ideal.div 1 (if (128 : ℝ) < 0 then ⊥ else ((Real.sqrt 128 : ℝ) : EReal)) = _
  rw [if_neg (by norm_num)]
  unfold Ideal.div
  rw [if_neg (by exact_mod_cast hs), one_mul, ← EReal.coe_inv]
  rfl

theorem exp2_mul (x : EReal) : Ideal.exp2 (x * (((Real.log 2)⁻¹ * (Real.sqrt 128)⁻¹ : ℝ) : EReal)) = Ideal.exp (x * (rsd : EReal)) := by
  have hl : 0 < Real.log 2 := Real.log_pos (by norm_num)
  have hs : 0 < (Real.sqrt 128)⁻¹ := rsd_pos
  induction x with
  | bot => rw [EReal.bot_mul_coe_of_pos (by positivity), EReal.bot_mul_coe_of_pos rsd_pos]; rfl
  | top => rw [EReal.top_mul_coe_of_pos (by positivity), EReal.top_mul_coe_of_pos rsd_pos]; rfl
  | coe r =>
    rw [← EReal.coe_mul, ← EReal.coe_mul]
    show ((Real.rpow 2 _ : ℝ) : EReal) = ((Real.exp _ : ℝ) : EReal)
    congr 1
    show (2 : ℝ) ^ (_ : ℝ) = _
    rw [Real.rpow_def_of_pos (by norm_num)]
    congr 1
    unfold rsd
    field_simp

theorem pw_exp (s m : EReal) : pw s m = Ideal.exp (s * (rsd : EReal) - m * (rsd : EReal)) := by
  unfold pw
  show Ideal.exp2 ((s - m) * (((Real.log 2)⁻¹ * (Real.sqrt 128)⁻¹ : ℝ) : EReal)) = _
  rw [exp2_mul, sub_eq_add_neg, sub_eq_add_neg,
    EReal.right_distrib_of_nonneg_of_ne_top (by exact_mod_cast rsd_pos.le) (EReal.coe_ne_top _), EReal.neg_mul]

theorem pw_bot (m : EReal) : pw ⊥ m = 0 := by
  rw [pw_exp, EReal.bot_mul_coe_of_pos rsd_pos, sub_eq_add_neg, EReal.bot_add]; rfl

theorem sup_rsd {n : ℕ} (z : Fin n → EReal) : (Finset.univ.sup fun t => z t * (rsd : EReal)) = Finset.univ.sup z * (rsd : EReal) := by
  symm
  refine Finset.comp_sup_eq_sup_comp (fun x : EReal => x * (rsd : EReal)) (fun x y => ?_) ?_
  · exact (Monotone.map_max (fun a b h => mul_le_mul_of_nonneg_right h (by exact_mod_cast rsd_pos.le)))
  · exact EReal.bot_mul_coe_of_pos rsd_pos

/-! ## Sums -/

theorem sum_tiles (f : ℕ → EReal) (a b : ℕ) :
    ∑ j ∈ Finset.range a, ∑ t ∈ Finset.range b, f (b * j + t) = ∑ i ∈ Finset.range (b * a), f i := by
  induction a with
  | zero => simp
  | succ a ih => rw [Finset.sum_range_succ, ih, Nat.mul_succ, Finset.sum_range_add]

theorem sum_lanes (f : ℕ → EReal) :
    ∑ u : Fin 128, ∑ j ∈ Finset.range 8, ∑ k ∈ Finset.range 8, f (1024 * j + (128 * k + u.val)) = ∑ t : Fin 8192, f t.val := by
  rw [Finset.sum_comm, Fin.sum_univ_eq_sum_range f 8192, ← sum_tiles f 8 1024]
  refine Finset.sum_congr rfl fun j _ => ?_
  rw [Finset.sum_comm, ← sum_tiles (fun t => f (1024 * j + t)) 8 128]
  exact Finset.sum_congr rfl fun k _ => Fin.sum_univ_eq_sum_range (fun u => f (1024 * j + (128 * k + u))) 128

theorem sum_rows (f : ℕ → EReal) :
    ∑ j ∈ Finset.range 8, ∑ t : Fin 1024, f (1024 * j + t.val) = ∑ t : Fin 8192, f t.val := by
  rw [Fin.sum_univ_eq_sum_range f 8192, ← sum_tiles f 8 1024]
  exact Finset.sum_congr rfl fun j _ => Fin.sum_univ_eq_sum_range (fun u => f (1024 * j + u)) 1024

/-- A sum over the new rows' lanes that vanishes off one head is the sum over that head's four tokens. -/
theorem sum_new (h : Fin 8) (F : Fin 128 → EReal) (h0 : ∀ c : Fin 128, ¬(c.val < 32 ∧ c.val % 8 = h.val) → F c = 0) :
    ∑ c : Fin 128, F c = ∑ u : Fin 4, F ⟨8 * u.val + h.val, by omega⟩ := by
  symm
  refine Finset.sum_of_injOn (fun u : Fin 4 => (⟨8 * u.val + h.val, by omega⟩ : Fin 128)) ?_ (fun _ _ => by simp) ?_ (fun _ _ => rfl)
  · intro u _ v _ e
    have := congrArg Fin.val e
    simp only at this
    exact Fin.ext (by omega)
  · intro c _ hc
    refine h0 c fun ⟨h1, h2⟩ => hc ⟨⟨c.val / 8, by omega⟩, by simp, Fin.ext ?_⟩
    show 8 * (c.val / 8) + h.val = c.val
    omega

theorem sum_split (f : Fin 8196 → EReal) :
    ∑ t, f t = (∑ t : Fin 8192, f ⟨t.val, by omega⟩) + ∑ u : Fin 4, f ⟨8192 + u.val, by omega⟩ :=
  Fin.sum_univ_add (a := 8192) (b := 4) f

/-! ## Scores -/

/-- A score against a cached token: the query against the token's dequantised key of the row's head. -/
theorem scq_eq (q : FVec Ideal S1x512x128 .bf16) (k : IVec S1x1024x8x128 8) (ks : FVec Ideal S1x8x1024 .f32) (r : Fin 512) (t : Fin 1024) :
    scq q k ks r t = ∑ d : Fin 128, q (ix3 0 r d)
      * (FloatOps.sitofp (F := Ideal) .bf16 (k (ix4 0 t ⟨r.val / 64, by omega⟩ d)) * ks (ix3 0 ⟨r.val / 64, by omega⟩ t)) := by
  unfold scq
  symm
  refine Finset.sum_of_injOn (fun d : Fin 128 => (⟨4 * d.val + r.val / 64 % 4, by omega⟩ : Fin 512)) ?_ (fun _ _ => by simp) ?_ ?_
  · intro u _ v _ e
    have := congrArg Fin.val e
    simp only at this
    exact Fin.ext (by omega)
  · intro w _ hw
    unfold qx
    rw [if_neg, zero_mul]
    intro e
    refine hw ⟨⟨w.val / 4, by omega⟩, by simp, Fin.ext ?_⟩
    show 4 * (w.val / 4) + r.val / 64 % 4 = w.val
    omega
  · intro d _
    unfold qx dq
    have h1 : (4 * d.val + r.val / 64 % 4) % 4 = r.val / 64 % 4 := by omega
    have h2 : (4 * d.val + r.val / 64 % 4) / 4 = d.val := by omega
    have h3 : 4 * (r.val / 256) + r.val / 64 % 4 = r.val / 64 := by omega
    simp only [h1, h2, h3, if_true]
    rfl

theorem dq_eq (k : IVec S1x1024x8x128 8) (ks : FVec Ideal S1x8x1024 .f32) (r : Fin 512) (d : Fin 128) (t : Fin 1024) :
    dq k ks ⟨r.val / 256, by omega⟩ ⟨4 * d.val + r.val / 64 % 4, by omega⟩ t
      = FloatOps.sitofp (F := Ideal) .bf16 (k (ix4 0 t ⟨r.val / 64, by omega⟩ d)) * ks (ix3 0 ⟨r.val / 64, by omega⟩ t) := by
  unfold dq
  have h1 : (4 * d.val + r.val / 64 % 4) % 4 = r.val / 64 % 4 := by omega
  have h2 : (4 * d.val + r.val / 64 % 4) / 4 = d.val := by omega
  have h3 : 4 * (r.val / 256) + r.val / 64 % 4 = r.val / 64 := by omega
  simp only [h1, h2, h3]
  rfl

theorem sn_off (q : FVec Ideal S1x512x128 .bf16) (x : FVec Ideal S1x32x128 .bf16) (r : Fin 512) (c : Fin 128)
    (h : ¬(c.val < 32 ∧ c.val % 8 = r.val / 64)) : sn q x r c = ⊥ := by
  unfold sn; rw [if_neg fun e => h ⟨e.1, e.2.1⟩]

/-- A new token's score: masked when the token comes after the query's step. -/
theorem sn_on (q : FVec Ideal S1x512x128 .bf16) (x : FVec Ideal S1x32x128 .bf16) (r : Fin 512) (u : Fin 4) :
    sn q x r ⟨8 * u.val + r.val / 64, by omega⟩
      = if u.val ≤ r.val % 64 / 16 then ∑ d : Fin 128, q (ix3 0 r d)
          * (FloatOps.sitofp (F := Ideal) .bf16 (qc (fun d => x (ix3 0 ⟨8 * u.val + r.val / 64, by omega⟩ d)) d) * qs (fun d => x (ix3 0 ⟨8 * u.val + r.val / 64, by omega⟩ d)))
        else ⊥ := by
  unfold sn vis dqn
  have h1 : (8 * u.val + r.val / 64) % 8 = r.val / 64 := by omega
  have h2 : (8 * u.val + r.val / 64) / 8 = u.val := by omega
  have h3 : 8 * u.val + r.val / 64 < 32 := by omega
  simp only [h1, h2, h3, true_and, dif_pos]

/-! ## The output -/

theorem Blk.Y_eq (b : Blk) (r : Fin 512) (d : Fin 128) (z V : Fin 8196 → EReal)
    (hS : ∀ t : Fin 8192, b.S r t.val = z ⟨t.val, by omega⟩)
    (hN : ∀ u : Fin 4, sn b.q b.kn r ⟨8 * u.val + r.val / 64, by omega⟩ = z ⟨8192 + u.val, by omega⟩)
    (hV : ∀ (j : ℕ) (t : Fin 1024) (h : 1024 * j + t.val < 8192),
      dq (b.vc j) (b.vs j) ⟨r.val / 256, by omega⟩ ⟨4 * d.val + r.val / 64 % 4, by omega⟩ t = V ⟨1024 * j + t.val, by omega⟩)
    (hW : ∀ u : Fin 4, dqn b.vn ⟨8 * u.val + r.val / 64, by omega⟩ d = V ⟨8192 + u.val, by omega⟩) :
    b.Y r d = Ideal.div (∑ t, pw (z t) (Finset.univ.sup z) * V t) (∑ t, pw (z t) (Finset.univ.sup z)) := by
  have hM : b.MX r = Finset.univ.sup z := by
    unfold MX
    refine eq_of_forall_ge_iff fun y => ?_
    simp only [max_le_iff, Finset.sup_le_iff, Finset.mem_univ, true_implies]
    constructor
    · rintro ⟨h1, h2⟩ t
      by_cases ht : t.val < 8192
      · have := h2 ⟨t.val, ht⟩; rw [hS] at this; exact this
      · have := h1 ⟨8 * (t.val - 8192) + r.val / 64, by omega⟩
        have e := hN ⟨t.val - 8192, by omega⟩
        simp only at e
        rw [e] at this
        have e2 : 8192 + (t.val - 8192) = t.val := by omega
        simp only [e2] at this
        exact this
    · intro h
      refine ⟨fun c => ?_, fun t => by rw [hS]; exact h _⟩
      by_cases hc : c.val < 32 ∧ c.val % 8 = r.val / 64
      · have e := hN ⟨c.val / 8, by omega⟩
        have e2 : 8 * (c.val / 8) + r.val / 64 = c.val := by omega
        simp only [e2] at e
        rw [show c = (⟨c.val, c.isLt⟩ : Fin 128) from rfl, e]; exact h _
      · rw [sn_off _ _ _ _ hc]; exact bot_le
  have hnew : ∀ G : Fin 128 → EReal, ∑ c : Fin 128, pw (sn b.q b.kn r c) (b.MX r) * G c
      = ∑ u : Fin 4, pw (z ⟨8192 + u.val, by omega⟩) (b.MX r) * G ⟨8 * u.val + r.val / 64, by omega⟩ := fun G => by
    rw [sum_new ⟨r.val / 64, by omega⟩ _ fun c hc => by rw [sn_off _ _ _ _ hc, pw_bot, zero_mul]]
    exact Finset.sum_congr rfl fun u _ => by rw [hN]
  have hnum : b.AN 8 r ⟨4 * d.val + r.val / 64 % 4, by omega⟩ = ∑ t, pw (z t) (Finset.univ.sup z) * V t := by
    unfold AN
    rw [sum_split, add_comm, hnew, ← hM]
    refine congrArg₂ (fun e f : EReal => e + f) ?_ ?_
    · refine Eq.trans ?_ ((sum_rows fun t => if h : t < 8192 then pw (z ⟨t, by omega⟩) (b.MX r) * V ⟨t, by omega⟩ else 0).trans ?_)
      · refine Finset.sum_congr rfl fun j hj => Finset.sum_congr rfl fun t _ => ?_
        have hj := Finset.mem_range.1 hj
        rw [dif_pos (by omega), hV j t (by omega)]
        rw [show b.S r (1024 * j + t.val) = z ⟨1024 * j + t.val, by omega⟩ from hS ⟨1024 * j + t.val, by omega⟩]
      · exact Finset.sum_congr rfl fun t _ => dif_pos t.isLt
    · refine Finset.sum_congr rfl fun u _ => ?_
      have h2 : (4 * d.val + r.val / 64 % 4) / 4 = d.val := by omega
      simp only [h2]
      rw [show (⟨d.val, d.isLt⟩ : Fin 128) = d from rfl, hW]
  have hden : ∑ u : Fin 128, b.LN 8 r u = ∑ t, pw (z t) (Finset.univ.sup z) := by
    unfold LN
    rw [Finset.sum_add_distrib, sum_lanes fun t => pw (b.S r t) (b.MX r), sum_split, add_comm, ← hM]
    refine congrArg₂ (fun e f : EReal => e + f) (Finset.sum_congr rfl fun t _ => by rw [hS]) ?_
    have := hnew fun _ => 1
    simpa only [mul_one] using this
  unfold Y
  rw [hnum, hden]

end Cert.KernelIdeal.Own
-- ==== Proof.RefTerms.lean ====
/-
  The reference's results as a chain of small terms, and each of them read at an index.
-/
module

public import proofs.«01_k».proof.Proof.Gen.ReferenceIdeal.Run
public import proofs.«01_k».proof.Proof.PaysA

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.KernelIdeal.Own (qs qr qc fold_max)

/-- The quantiser's scales. -/
def rSC (x : FVec Ideal S8x4x8x128 .bf16) : FVec Ideal S8x4x8 .f32 :=
  select (cmpf .oeq (Host.reduce FloatOps.maximumf (Host.absf (extf .f32 x bitsLt_bf16_f32)) (constant S_ .f32 0xFF800000#32) reducesTo_S8x4x8x128_S8x4x8_d3 h_S_) (broadcastInDim S8x4x8 ![] bcast_S_S8x4x8 (constant S_ .f32 0x00000000#32))) (broadcastInDim S8x4x8 ![] bcast_S_S8x4x8 (id (constant S_ .f32 0x3F800000#32))) (Host.divf (Host.reduce FloatOps.maximumf (Host.absf (extf .f32 x bitsLt_bf16_f32)) (constant S_ .f32 0xFF800000#32) reducesTo_S8x4x8x128_S8x4x8_d3 h_S_) (broadcastInDim S8x4x8 ![] bcast_S_S8x4x8 (constant S_ .f32 0x42FE0000#32)))

/-- The quantiser's codes. -/
def rCD (x : FVec Ideal S8x4x8x128 .bf16) : IVec S8x4x8x128 8 :=
  trunci 8 (fptosi 32 (minimumf (broadcastInDim S8x4x8x128 ![] bcast_S_S8x4x8x128 (id (constant S_ .f32 0x42FE0000#32))) (maximumf (broadcastInDim S8x4x8x128 ![] bcast_S_S8x4x8x128 (id (constant S_ .f32 0xC2FE0000#32))) (Host.roundeven (Host.divf (extf .f32 x bitsLt_bf16_f32) (broadcastInDim S8x4x8x128 ![0, 1, 2, 3] bcast_S8x4x8x1_S8x4x8x128_0_1_2_3 (broadcastInDim S8x4x8x1 ![0, 1, 2] bcast_S8x4x8_S8x4x8x1_0_1_2 (rSC x)))))))) natLt_8_32

/-- A cache, dequantised, with the new rows behind it. -/
def rDQ (k : IVec S8x8192x8x128 8) (s : FVec Ideal S8x8192x8 .f32) (x : FVec Ideal S8x4x8x128 .bf16) : FVec Ideal S8x8196x8x128 .bf16 :=
  (concatenate S8x8196x8x128 1 [⟨S8x8192x8x128, (mulf (sitofp .bf16 (extsi 32 k natLt_8_32)) (broadcastInDim S8x8192x8x128 ![0, 1, 2, 3] bcast_S8x8192x8x1_S8x8192x8x128_0_1_2_3 (broadcastInDim S8x8192x8x1 ![0, 1, 2] bcast_S8x8192x8_S8x8192x8x1_0_1_2 (truncf .bf16 s bitsLt_bf16_f32))))⟩, ⟨S8x4x8x128, (mulf (sitofp .bf16 (extsi 32 (rCD x) natLt_8_32)) (broadcastInDim S8x4x8x128 ![0, 1, 2, 3] bcast_S8x4x8x1_S8x4x8x128_0_1_2_3 (broadcastInDim S8x4x8x1 ![0, 1, 2] bcast_S8x4x8_S8x4x8x1_0_1_2 (truncf .bf16 (rSC x) bitsLt_bf16_f32))))⟩] concatenates_S8x8192x8x128_S8x4x8x128_S8x8196x8x128_d1)

/-- The masked scores. -/
def rS (q : FVec Ideal S8x4x16384 .bf16) (K : FVec Ideal S8x8196x8x128 .bf16) : FVec Ideal S8x8x16x4x8196 .f32 :=
  (select (broadcastInDim S8x8x16x4x8196 ![3, 4] bcast_S4x8196_S8x8x16x4x8196_3_4 (cmpi .sle (subi (iotaInDim S4x8196 32 1) (broadcastInDim S4x8196 ![] bcast_S_S4x8196 (constantI S_ 32 8192#32))) (iotaInDim S4x8196 32 0))) (mulf (transpose S8x8x16x4x8196 [0, 1, 4, 3, 2] (Host.dotGeneral dot_S8x8196x8x128_S8x4x8x16x128_S8x8x8196x4x16_3_4_1_13_02_02 none K (shapeCast _ q shapeCasts_S8x4x16384_S8x4x8x16x128)) transposes_S8x8x8196x4x16_S8x8x16x4x8196_0_1_4_3_2) (broadcastInDim S8x8x16x4x8196 ![] bcast_S_S8x8x16x4x8196 (Host.divf (constant S_ .f32 0x3F800000#32) (Host.sqrt (constant S_ .f32 0x43000000#32))))) (broadcastInDim S8x8x16x4x8196 ![] bcast_S_S8x8x16x4x8196 (id (constant S_ .f32 0xFF800000#32))))

/-- The softmax weights before their division. -/
def rP (z : FVec Ideal S8x8x16x4x8196 .f32) : FVec Ideal S8x8x16x4x8196 .f32 :=
  (Host.exp (subf z (broadcastInDim S8x8x16x4x8196 ![0, 1, 2, 3, 4] bcast_S8x8x16x4x1_S8x8x16x4x8196_0_1_2_3_4 (broadcastInDim S8x8x16x4x1 ![0, 1, 2, 3] bcast_S8x8x16x4_S8x8x16x4x1_0_1_2_3 (Host.reduce FloatOps.maximumf z (constant S_ .f32 0xFF800000#32) reducesTo_S8x8x16x4x8196_S8x8x16x4_d4 h_S_)))))

/-- The weighted values over the weights' sum. -/
def rY (p : FVec Ideal S8x8x16x4x8196 .f32) (V : FVec Ideal S8x8196x8x128 .bf16) : FVec Ideal S8x4x16384 .bf16 :=
  truncf .bf16 (shapeCast _ (transpose S8x4x8x16x128 [0, 3, 1, 2, 4] (Host.divf (Host.dotGeneral dot_S8x8x16x4x8196_S8x8196x8x128_S8x8x16x4x128_4_1_23_3_01_02 none p (extf .f32 V bitsLt_bf16_f32)) (broadcastInDim S8x8x16x4x128 ![0, 1, 2, 3, 4] bcast_S8x8x16x4x1_S8x8x16x4x128_0_1_2_3_4 (broadcastInDim S8x8x16x4x1 ![0, 1, 2, 3] bcast_S8x8x16x4_S8x8x16x4x1_0_1_2_3 (Host.reduceAdd p (constant S_ .f32 0x00000000#32) reducesTo_S8x8x16x4x8196_S8x8x16x4_d4 h_S_)))) transposes_S8x8x16x4x128_S8x4x8x16x128_0_3_1_2_4) shapeCasts_S8x4x8x16x128_S8x4x16384) bitsLt_bf16_f32

theorem res_out0_eq (m : (ℓ : Loc nD τ sig) → Buf (Elt Ideal) ℓ) (c : Dev nD) :
    res_main_v82 m c = rY (rP (rS (m ((c.tc : Thread nD τ).loc main_arg0)) (rDQ (m ((c.tc : Thread nD τ).loc main_arg3)) (m ((c.tc : Thread nD τ).loc main_arg4)) (m ((c.tc : Thread nD τ).loc main_arg1))))) (rDQ (m ((c.tc : Thread nD τ).loc main_arg5)) (m ((c.tc : Thread nD τ).loc main_arg6)) (m ((c.tc : Thread nD τ).loc main_arg2))) := by
  unfold res_main_v82 rY rP rS rDQ rCD rSC; rfl

/-- What the run leaves, in these terms. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = rY (rP (rS (m ((c.tc : Thread nD τ).loc main_arg0)) (rDQ (m ((c.tc : Thread nD τ).loc main_arg3)) (m ((c.tc : Thread nD τ).loc main_arg4)) (m ((c.tc : Thread nD τ).loc main_arg1))))) (rDQ (m ((c.tc : Thread nD τ).loc main_arg5)) (m ((c.tc : Thread nD τ).loc main_arg6)) (m ((c.tc : Thread nD τ).loc main_arg2)))
      ∧ r.2.mem ((c.tc : Thread nD τ).loc main_v14) = rCD (m ((c.tc : Thread nD τ).loc main_arg1))
      ∧ r.2.mem ((c.tc : Thread nD τ).loc main_v7) = rSC (m ((c.tc : Thread nD τ).loc main_arg1))
      ∧ r.2.mem ((c.tc : Thread nD τ).loc main_v29) = rCD (m ((c.tc : Thread nD τ).loc main_arg2))
      ∧ r.2.mem ((c.tc : Thread nD τ).loc main_v22) = rSC (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h0, h1, h2, h3, h4, hr⟩ := h c
  refine ⟨h0.trans (res_out0_eq m c), h1.trans ?_, h2.trans ?_, h3.trans ?_, h4.trans ?_, hr⟩
  · unfold rCD rSC; rfl
  · unfold rSC; rfl
  · unfold rCD rSC; rfl
  · unfold rSC; rfl

theorem cst_ix0 (b : BitVec 32) : id (constant (F := Ideal) S_ .f32 b) ix0 = Ideal.ofBits .f32 b := rfl

theorem rSC_apply (x : FVec Ideal S8x4x8x128 .bf16) (b : Fin 8) (s : Fin 4) (h : Fin 8) : rSC x (ix3 b s h) = qs (fun d => x (ix4 b s h d)) := by
  have h1 : Ideal.ofBits FTy.f32 1065353216#32 = 1 := by
    simp [Ideal.ofBits, Ideal.ieee]; rw [← EReal.coe_mul]; norm_num
  pointwise [rSC]
  rw [fold_max, cst_ix0, h1]; rfl

theorem setWidth_ofInt (n : ℤ) : BitVec.setWidth 8 (BitVec.ofInt 32 n) = BitVec.ofInt 8 n := by
  apply BitVec.eq_of_toNat_eq
  rw [BitVec.toNat_setWidth, BitVec.toNat_ofInt, BitVec.toNat_ofInt]
  omega

/-- A value clipped to a byte's range reads the same through a 32-bit word. -/
theorem fptosi_clip (a : EReal) :
    BitVec.setWidth 8 (FloatOps.fptosi (F := Ideal) (φ := .f32) 32 (min (Ideal.ofBits .f32 1123942400#32) (max (Ideal.ofBits .f32 3271426048#32) a)))
      = FloatOps.fptosi (F := Ideal) (φ := .f32) 8 (min (Ideal.ofBits .f32 1123942400#32) (max (Ideal.ofBits .f32 3271426048#32) a)) := by
  have h1 : Ideal.ofBits FTy.f32 1123942400#32 = ((127 : ℝ) : EReal) := by
    simp [Ideal.ofBits, Ideal.ieee]; rw [← EReal.coe_mul]; norm_num
  have h2 : Ideal.ofBits FTy.f32 3271426048#32 = ((-127 : ℝ) : EReal) := by
    simp [Ideal.ofBits, Ideal.ieee]; rw [← EReal.coe_mul]; norm_num
  rw [h1, h2]
  obtain ⟨r, hr, hlo, hhi⟩ : ∃ r : ℝ, min ((127 : ℝ) : EReal) (max ((-127 : ℝ) : EReal) a) = (r : EReal) ∧ -127 ≤ r ∧ r ≤ 127 := by
    induction a with
    | bot => exact ⟨-127, by rw [max_eq_left bot_le, min_eq_right (by exact_mod_cast (by norm_num : (-127 : ℝ) ≤ 127))], by norm_num, by norm_num⟩
    | top => exact ⟨127, by rw [max_eq_right le_top, min_eq_left le_top], by norm_num, by norm_num⟩
    | coe x => exact ⟨min 127 (max (-127) x), by rw [EReal.coe_strictMono.monotone.map_min, EReal.coe_strictMono.monotone.map_max], le_min (by norm_num) (le_max_left _ _), min_le_left _ _⟩
  rw [hr]
  show BitVec.setWidth 8 (BitVec.ofInt 32 _) = BitVec.ofInt 8 _
  rw [setWidth_ofInt]
  congr 1
  show max (-(2147483648 : ℤ)) (min (2147483648 - 1) (if 0 ≤ r then ⌊r⌋ else ⌈r⌉)) = max (-(128 : ℤ)) (min (128 - 1) (if 0 ≤ r then ⌊r⌋ else ⌈r⌉))
  have hf : -127 ≤ (if 0 ≤ r then ⌊r⌋ else ⌈r⌉) ∧ (if 0 ≤ r then ⌊r⌋ else ⌈r⌉) ≤ 127 := by
    split
    · exact ⟨Int.le_floor.2 (by push_cast; linarith), by have := Int.floor_le r; exact_mod_cast this.trans hhi⟩
    · exact ⟨by have := Int.le_ceil r; exact_mod_cast hlo.trans this, Int.ceil_le.2 (by push_cast; linarith)⟩
  omega

theorem rCD_apply (x : FVec Ideal S8x4x8x128 .bf16) (b : Fin 8) (s : Fin 4) (h : Fin 8) (d : Fin 128) : rCD x (ix4 b s h d) = qc (fun d => x (ix4 b s h d)) d := by
  pointwise [rCD]
  rw [rSC_apply]
  exact fptosi_clip _

theorem sitofp_ext (k : BitVec 8) : FloatOps.sitofp (F := Ideal) .bf16 (BitVec.signExtend 32 k) = FloatOps.sitofp (F := Ideal) .bf16 k := by
  show (((BitVec.signExtend 32 k).toInt : ℝ) : EReal) = ((k.toInt : ℝ) : EReal)
  rw [BitVec.toInt_signExtend_of_le (by decide)]

theorem rDQ_old (k : IVec S8x8192x8x128 8) (s : FVec Ideal S8x8192x8 .f32) (x : FVec Ideal S8x4x8x128 .bf16) (b : Fin 8) (t : Fin 8196) (ht : t.val < 8192) (h : Fin 8) (d : Fin 128) :
    rDQ k s x (ix4 b t h d) = FloatOps.sitofp (F := Ideal) .bf16 (k (ix4 b ⟨t.val, ht⟩ h d)) * s (ix3 b ⟨t.val, ht⟩ h) := by
  pointwise [rDQ]
  rw [dif_pos ht]
  exact congrArg (fun e : EReal => e * s (ix3 b ⟨t.val, ht⟩ h)) (sitofp_ext _)

theorem rDQ_new (k : IVec S8x8192x8x128 8) (s : FVec Ideal S8x8192x8 .f32) (x : FVec Ideal S8x4x8x128 .bf16) (b : Fin 8) (t : Fin 8196) (u : Fin 4) (ht : t.val = 8192 + u.val) (h : Fin 8) (d : Fin 128) :
    rDQ k s x (ix4 b t h d) = FloatOps.sitofp (F := Ideal) .bf16 (qc (fun d => x (ix4 b u h d)) d) * qs (fun d => x (ix4 b u h d)) := by
  pointwise [rDQ]
  rw [dif_neg (by omega)]
  have e : (⟨t.val - 8192, by omega⟩ : Fin 4) = u := Fin.ext (by show t.val - 8192 = u.val; omega)
  rw [e, rCD_apply, rSC_apply]
  exact congrArg (fun e : EReal => e * qs (fun d => x (ix4 b u h d))) (sitofp_ext _)

theorem bits_bot : Ideal.ofBits FTy.f32 4286578688#32 = ⊥ := by simp [Ideal.ofBits, Ideal.ieee]

/-- The causal mask, read at a token and a step. -/
theorem sel_le (t : Fin 8196) (s : Fin 4) (a b : EReal) :
    Scalar.select (IntOp.cmpi CmpIPredicate.sle (IntOp.subi (BitVec.ofNat 32 t.val) 8192#32) (BitVec.ofNat 32 s.val)) a b = if t.val ≤ 8192 + s.val then a else b := by
  have hs : (BitVec.ofNat 32 t.val - 8192#32).sle (BitVec.ofNat 32 s.val) = decide (t.val ≤ 8192 + s.val) := by
    have ht := t.isLt
    have hs := s.isLt
    rw [BitVec.sle_eq_decide, BitVec.toInt_sub, BitVec.toInt_ofNat', BitVec.toInt_ofNat', BitVec.toInt_ofNat']
    congr 1
    simp only [Int.bmod_def]
    apply propext
    omega
  have e : IntOp.cmpi CmpIPredicate.sle (IntOp.subi (BitVec.ofNat 32 t.val) 8192#32) (BitVec.ofNat 32 s.val) = if t.val ≤ 8192 + s.val then 1#1 else 0#1 := by
    show BitVec.ofBool ((BitVec.ofNat 32 t.val - 8192#32).sle (BitVec.ofNat 32 s.val)) = _
    rw [hs]
    by_cases h : t.val ≤ 8192 + s.val <;> simp [h]
  rw [e]
  by_cases h : t.val ≤ 8192 + s.val
  · rw [if_pos h, if_pos h]; rfl
  · rw [if_neg h, if_neg h]; rfl

/-- A masked score. -/
theorem rS_apply (q : FVec Ideal S8x4x16384 .bf16) (K : FVec Ideal S8x8196x8x128 .bf16) (b h : Fin 8) (g : Fin 16) (s : Fin 4) (t : Fin 8196) :
    rS q K (ix5 b h g s t) = if t.val ≤ 8192 + s.val then
      (∑ d : Fin 128, K (ix4 b t h d) * q (ix3 b s ⟨h.val * 2048 + g.val * 128 + d.val, by omega⟩)) * Ideal.div 1 (Ideal.sqrt (Ideal.ofBits .f32 1124073472#32)) else ⊥ := by
  pointwise [rS]
  rw [cst_ix0, bits_bot]
  exact sel_le t s _ _

theorem rP_apply (z : FVec Ideal S8x8x16x4x8196 .f32) (b h : Fin 8) (g : Fin 16) (s : Fin 4) (t : Fin 8196) :
    rP z (ix5 b h g s t) = Ideal.exp (z (ix5 b h g s t) - Finset.univ.sup fun t => z (ix5 b h g s t)) := by
  pointwise [rP]
  rw [fold_max]

theorem rY_apply (z : FVec Ideal S8x8x16x4x8196 .f32) (V : FVec Ideal S8x8196x8x128 .bf16) (b h : Fin 8) (g : Fin 16) (s : Fin 4) (d : Fin 128) :
    rY z V (ix3 b s ⟨2048 * h.val + 128 * g.val + d.val, by omega⟩)
      = Ideal.div (∑ t : Fin 8196, z (ix5 b h g s t) * V (ix4 b t h d)) (∑ t : Fin 8196, z (ix5 b h g s t)) := by
  pointwise [rY]

end Cert.ReferenceIdeal.Value
-- ==== Proof.Value.lean ====
/-
  The idealized kernel's five results are the reference's: the quantised new rows directly, the outputs by regrouping the kernel's
  sums over tiles and lanes into the reference's sums over the tokens.
-/
module

public import proofs.«01_k».proof.Defs
public import proofs.«01_k».proof.Proof.Arrays
public import proofs.«01_k».proof.Proof.Softmax
public import proofs.«01_k».proof.Proof.RefTerms

@[expose] public section

set_option maxRecDepth 16384

noncomputable section

namespace Cert.KernelIdeal.Own

open Idealize.ShloMosaic Idealize.ShloMosaic.TcCoe Idealize.SL.Sem
open Cert.KernelIdeal Cert.KernelIdeal.Gen
open Cert.ReferenceIdeal.Value (rSC rCD rDQ rS rP rY rSC_apply rCD_apply rDQ_old rDQ_new rS_apply rP_apply rY_apply)

variable (m : (ℓ : Loc nD τ sig) → Buf (Elt Ideal) ℓ) (c : Dev nD)

/-! ## A batch's blocks in terms of the arguments -/

theorem pt_div (b : Fin 8) (k : ℕ) (hk : k < 16) : (pt (16 * b.val + k)).val / 16 = b.val := by
  show (16 * b.val + k) % 128 / 16 = b.val
  have := b.isLt; omega

theorem pt_mod (b : Fin 8) (k : ℕ) (hk : k < 16) : (pt (16 * b.val + k)).val % 16 = k := by
  show (16 * b.val + k) % 128 % 16 = k
  have := b.isLt; omega

theorem blk_q_apply (b : Fin 8) (r : Fin 512) (d : Fin 128) :
    (blk m c b.val).q (ix3 0 r d) = (m ((c : Thread nD τ).loc main_arg0) : FVec Ideal S8x4x16384 .bf16) (ix3 b ⟨r.val % 64 / 16, by omega⟩ ⟨r.val / 64 * 2048 + r.val % 16 * 128 + d.val, by omega⟩) :=
  (iblk0_apply m c _ b (pt_div b 0 (by decide)).symm r d).trans (qT_apply _ b r d)

theorem blk_kn_apply (b : Fin 8) (n : Fin 32) (d : Fin 128) :
    (blk m c b.val).kn (ix3 0 n d) = (m ((c : Thread nD τ).loc main_arg1) : FVec Ideal S8x4x8x128 .bf16) (ix4 b ⟨n.val / 8, by omega⟩ ⟨n.val % 8, by omega⟩ d) :=
  (iblk1_apply m c _ b (pt_div b 0 (by decide)).symm n d).trans (nT_apply _ b n d)

theorem blk_vn_apply (b : Fin 8) (n : Fin 32) (d : Fin 128) :
    (blk m c b.val).vn (ix3 0 n d) = (m ((c : Thread nD τ).loc main_arg2) : FVec Ideal S8x4x8x128 .bf16) (ix4 b ⟨n.val / 8, by omega⟩ ⟨n.val % 8, by omega⟩ d) :=
  (iblk2_apply m c _ b (pt_div b 0 (by decide)).symm n d).trans (nT_apply _ b n d)

theorem blk_kc_apply (b : Fin 8) (j : ℕ) (hj : j < 8) (u : Fin 1024) (h : Fin 8) (d : Fin 128) :
    (blk m c b.val).kc j (ix4 0 u h d) = (m ((c : Thread nD τ).loc main_arg3) : IVec S8x8192x8x128 8) (ix4 b ⟨1024 * j + u.val, by omega⟩ h d) :=
  iblk3_apply m c _ b (pt_div b j (by omega)).symm j (by rw [pt_mod b j (by omega)]; omega) u h d (by omega)

theorem blk_ks_apply (b : Fin 8) (j : ℕ) (hj : j < 8) (h : Fin 8) (u : Fin 1024) :
    (blk m c b.val).ks j (ix3 0 h u) = (m ((c : Thread nD τ).loc main_arg4) : FVec Ideal S8x8192x8 .f32) (ix3 b ⟨1024 * j + u.val, by omega⟩ h) :=
  (iblk4_apply m c _ b (pt_div b j (by omega)).symm j (by rw [pt_mod b j (by omega)]; omega) h u (by omega)).trans (sT_apply _ _ _ _)

theorem blk_vc_apply (b : Fin 8) (j : ℕ) (hj : j < 8) (u : Fin 1024) (h : Fin 8) (d : Fin 128) :
    (blk m c b.val).vc j (ix4 0 u h d) = (m ((c : Thread nD τ).loc main_arg5) : IVec S8x8192x8x128 8) (ix4 b ⟨1024 * j + u.val, by omega⟩ h d) := by
  have e : 16 * b.val + 8 + j = 16 * b.val + (8 + j) := by omega
  refine iblk5_apply m c (pt (16 * b.val + 8 + j)) b ?_ j ?_ u h d (by omega)
  · rw [e, pt_div b (8 + j) (by omega)]
  · rw [e, pt_mod b (8 + j) (by omega)]; omega

theorem blk_vs_apply (b : Fin 8) (j : ℕ) (hj : j < 8) (h : Fin 8) (u : Fin 1024) :
    (blk m c b.val).vs j (ix3 0 h u) = (m ((c : Thread nD τ).loc main_arg6) : FVec Ideal S8x8192x8 .f32) (ix3 b ⟨1024 * j + u.val, by omega⟩ h) := by
  have e : 16 * b.val + 8 + j = 16 * b.val + (8 + j) := by omega
  refine (iblk6_apply m c (pt (16 * b.val + 8 + j)) b ?_ j ?_ h u (by omega)).trans (sT_apply _ _ _ _)
  · rw [e, pt_div b (8 + j) (by omega)]
  · rw [e, pt_mod b (8 + j) (by omega)]; omega

/-! ## The quantised rows -/

/-- A new row, by step and head. -/
theorem row_eq (x : FVec Ideal S8x4x8x128 .bf16) (y : FVec Ideal S1x32x128 .bf16) (b : Fin 8)
    (hy : ∀ (n : Fin 32) (d : Fin 128), y (ix3 0 n d) = x (ix4 b ⟨n.val / 8, by omega⟩ ⟨n.val % 8, by omega⟩ d))
    (s : Fin 4) (h : Fin 8) (n : Fin 32) (hn : n.val = s.val * 8 + h.val) :
    (fun d => y (ix3 0 n d)) = fun d => x (ix4 b s h d) := by
  funext d
  have e1 : (⟨n.val / 8, by omega⟩ : Fin 4) = s := Fin.ext (by show n.val / 8 = s.val; omega)
  have e2 : (⟨n.val % 8, by omega⟩ : Fin 8) = h := Fin.ext (by show n.val % 8 = h.val; omega)
  rw [hy, e1, e2]

theorem new_codes_eq (x : FVec Ideal S8x4x8x128 .bf16) (y : ℕ → FVec Ideal S1x32x128 .bf16)
    (hy : ∀ (b : Fin 8) (n : Fin 32) (d : Fin 128), y b.val (ix3 0 n d) = x (ix4 b ⟨n.val / 8, by omega⟩ ⟨n.val % 8, by omega⟩ d)) :
    cT (arrC y) = rCD x := by
  funext i
  obtain ⟨b, s, h, d, rfl⟩ : ∃ (b : Fin 8) (s : Fin 4) (h : Fin 8) (d : Fin 128), i = ix4 b s h d := ⟨_, _, _, _, eq_ix4 i⟩
  rw [cT_apply]
  refine Eq.trans ?_ (rCD_apply x b s h d).symm
  exact congrArg (fun f => qc f d) (row_eq x (y b.val) b (hy b) s h _ rfl)

theorem new_scales_eq (x : FVec Ideal S8x4x8x128 .bf16) (y : ℕ → FVec Ideal S1x32x128 .bf16)
    (hy : ∀ (b : Fin 8) (n : Fin 32) (d : Fin 128), y b.val (ix3 0 n d) = x (ix4 b ⟨n.val / 8, by omega⟩ ⟨n.val % 8, by omega⟩ d)) :
    scT (arrS y) = rSC x := by
  funext i
  obtain ⟨b, s, h, rfl⟩ : ∃ (b : Fin 8) (s : Fin 4) (h : Fin 8), i = ix3 b s h := ⟨_, _, _, eq_ix3 i⟩
  rw [scT_apply]
  refine Eq.trans ?_ (rSC_apply x b s h).symm
  exact congrArg qs (row_eq x (y b.val) b (hy b) s h _ rfl)

/-! ## The outputs -/

/-- The reference's masked score before its scaling. -/
def zz (q : FVec Ideal S8x4x16384 .bf16) (K : FVec Ideal Cert.ReferenceIdeal.S8x8196x8x128 .bf16) (b h : Fin 8) (g : Fin 16) (s : Fin 4) (t : Fin 8196) : EReal :=
  if t.val ≤ 8192 + s.val then ∑ d : Fin 128, q (ix3 b s ⟨h.val * 2048 + g.val * 128 + d.val, by omega⟩) * K (ix4 b t h d) else ⊥

theorem rS_eq (q : FVec Ideal S8x4x16384 .bf16) (K : FVec Ideal Cert.ReferenceIdeal.S8x8196x8x128 .bf16) (b h : Fin 8) (g : Fin 16) (s : Fin 4) (t : Fin 8196) :
    rS q K (ix5 b h g s t) = zz q K b h g s t * (rsd : EReal) := by
  rw [rS_apply, rsd_const]
  unfold zz
  split
  · exact congrArg (fun e : EReal => e * (rsd : EReal)) (Finset.sum_congr rfl fun d _ => mul_comm _ _)
  · exact (EReal.bot_mul_coe_of_pos rsd_pos).symm

theorem rP_eq (q : FVec Ideal S8x4x16384 .bf16) (K : FVec Ideal Cert.ReferenceIdeal.S8x8196x8x128 .bf16) (b h : Fin 8) (g : Fin 16) (s : Fin 4) (t : Fin 8196) :
    rP (rS q K) (ix5 b h g s t) = pw (zz q K b h g s t) (Finset.univ.sup (zz q K b h g s)) := by
  rw [rP_apply, pw_exp, ← sup_rsd]
  simp only [rS_eq]

theorem outs_eq :
    yT (arrY m c) = rY (rP (rS (m ((c : Thread nD τ).loc main_arg0)) (rDQ (m ((c : Thread nD τ).loc main_arg3)) (m ((c : Thread nD τ).loc main_arg4)) (m ((c : Thread nD τ).loc main_arg1)))))
      (rDQ (m ((c : Thread nD τ).loc main_arg5)) (m ((c : Thread nD τ).loc main_arg6)) (m ((c : Thread nD τ).loc main_arg2))) := by
  funext i
  obtain ⟨b, s, h, g, d, rfl⟩ : ∃ (b : Fin 8) (s : Fin 4) (h : Fin 8) (g : Fin 16) (d : Fin 128), i = ix3 b s ⟨2048 * h.val + 128 * g.val + d.val, by omega⟩ := by
    refine ⟨i 0, i 1, ⟨(i 2).val / 2048, ?_⟩, ⟨(i 2).val / 128 % 16, by omega⟩, ⟨(i 2).val % 128, by omega⟩, ?_⟩
    · have : (i 2).val < 16384 := (i 2).isLt
      omega
    · refine (eq_ix3 i).trans (congrArg (ix3 (i 0) (i 1)) (Fin.ext ?_))
      show (i 2).val = 2048 * ((i 2).val / 2048) + 128 * ((i 2).val / 128 % 16) + (i 2).val % 128
      omega
  rw [yT_apply]
  refine Eq.trans ?_ (rY_apply _ _ b h g s d).symm
  simp only [rP_eq]
  generalize hK : rDQ (m ((c : Thread nD τ).loc main_arg3)) (m ((c : Thread nD τ).loc main_arg4)) (m ((c : Thread nD τ).loc main_arg1)) = K
  generalize hV : rDQ (m ((c : Thread nD τ).loc main_arg5)) (m ((c : Thread nD τ).loc main_arg6)) (m ((c : Thread nD τ).loc main_arg2)) = W
  obtain ⟨r, hr⟩ : ∃ r : Fin 512, r = ⟨h.val * 64 + s.val * 16 + g.val, by omega⟩ := ⟨_, rfl⟩
  have hr' : r.val = h.val * 64 + s.val * 16 + g.val := congrArg Fin.val hr
  have eh : (⟨r.val / 64, by omega⟩ : Fin 8) = h := Fin.ext (by show r.val / 64 = h.val; omega)
  have hq : ∀ d : Fin 128, (blk m c b.val).q (ix3 0 r d) = (m ((c : Thread nD τ).loc main_arg0) : FVec Ideal S8x4x16384 .bf16) (ix3 b s ⟨h.val * 2048 + g.val * 128 + d.val, by omega⟩) := fun d => by
    have e1 : (⟨r.val % 64 / 16, by omega⟩ : Fin 4) = s := Fin.ext (by show r.val % 64 / 16 = s.val; omega)
    have e2 : (⟨r.val / 64 * 2048 + r.val % 16 * 128 + d.val, by omega⟩ : Fin 16384) = ⟨h.val * 2048 + g.val * 128 + d.val, by omega⟩ :=
      Fin.ext (by show r.val / 64 * 2048 + r.val % 16 * 128 + d.val = h.val * 2048 + g.val * 128 + d.val; omega)
    rw [blk_q_apply, e1, e2]
  rw [← hr]
  refine Blk.Y_eq (blk m c b.val) r d _ (fun t => W (ix4 b t h d)) (fun t => ?_) (fun u => ?_) (fun j t hj => ?_) fun u => ?_
  · unfold Blk.S zz
    rw [scq_eq, eh, if_pos (by show t.val ≤ _; omega)]
    refine Finset.sum_congr rfl fun d _ => ?_
    have e : (⟨1024 * (t.val / 1024) + (⟨t.val % 1024, Nat.mod_lt _ (by decide)⟩ : Fin 1024).val, by show 1024 * (t.val / 1024) + t.val % 1024 < 8192; omega⟩ : Fin 8192) = t :=
      Fin.ext (by show 1024 * (t.val / 1024) + t.val % 1024 = t.val; omega)
    rw [hq, blk_kc_apply m c b _ (by omega), blk_ks_apply m c b _ (by omega), e, ← hK]
    exact congrArg (fun e : EReal => _ * e) (rDQ_old _ _ _ b ⟨t.val, by omega⟩ t.isLt h d).symm
  · rw [sn_on]
    unfold zz
    have e : r.val % 64 / 16 = s.val := by omega
    rw [row_eq _ _ b (blk_kn_apply m c b) u h ⟨8 * u.val + r.val / 64, by omega⟩ (by show 8 * u.val + r.val / 64 = _; omega), e]
    refine if_congr (by show _ ↔ 8192 + u.val ≤ 8192 + s.val; omega) (Finset.sum_congr rfl fun d _ => ?_) rfl
    rw [hq, ← hK]
    exact congrArg (fun e : EReal => _ * e) (rDQ_new _ _ _ b ⟨8192 + u.val, by omega⟩ u rfl h d).symm
  · rw [dq_eq, eh, blk_vc_apply m c b _ (by omega), blk_vs_apply m c b _ (by omega), ← hV]
    exact (rDQ_old _ _ _ b ⟨1024 * j + t.val, by omega⟩ hj h d).symm
  · unfold dqn
    rw [dif_pos (by show 8 * u.val + r.val / 64 < 32; omega), ← hV]
    refine Eq.trans ?_ (rDQ_new _ _ _ b ⟨8192 + u.val, by omega⟩ u rfl h d).symm
    have e := row_eq _ _ b (blk_vn_apply m c b) u h ⟨8 * u.val + r.val / 64, by omega⟩ (by show 8 * u.val + r.val / 64 = _; omega)
    exact congrArg (fun f => (FloatOps.sitofp (F := Ideal) .bf16 (qc f d) * qs f : EReal)) e

/-! ## The run -/

/-- The idealized kernel ends with the reference's terms of its own arguments in its five results, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v10) = rY (rP (rS (m ((c.tc : Thread nD τ).loc main_arg0)) (rDQ (m ((c.tc : Thread nD τ).loc main_arg3)) (m ((c.tc : Thread nD τ).loc main_arg4)) (m ((c.tc : Thread nD τ).loc main_arg1))))) (rDQ (m ((c.tc : Thread nD τ).loc main_arg5)) (m ((c.tc : Thread nD τ).loc main_arg6)) (m ((c.tc : Thread nD τ).loc main_arg2)))
      ∧ r.2.mem ((c.tc : Thread nD τ).loc main_v11) = rCD (m ((c.tc : Thread nD τ).loc main_arg1))
      ∧ r.2.mem ((c.tc : Thread nD τ).loc main_v12) = rSC (m ((c.tc : Thread nD τ).loc main_arg1))
      ∧ r.2.mem ((c.tc : Thread nD τ).loc main_v13) = rCD (m ((c.tc : Thread nD τ).loc main_arg2))
      ∧ r.2.mem ((c.tc : Thread nD τ).loc main_v14) = rSC (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  obtain ⟨h, -⟩ := h
  have hr := (h c).2
  refine ⟨?_, ?_, ?_, ?_, ?_,
    ((hr main_arg0 (Pipeline.mem_restRefs_of main_arg0 (by decide) (by decide))).trans (W_main_arg0 m (dats m) c)),
    ((hr main_arg1 (Pipeline.mem_restRefs_of main_arg1 (by decide) (by decide))).trans (W_main_arg1 m (dats m) c)),
    ((hr main_arg2 (Pipeline.mem_restRefs_of main_arg2 (by decide) (by decide))).trans (W_main_arg2 m (dats m) c)),
    ((h c).1 3).trans (((dats m 0 c).arrAt_in 3 rfl _).trans ((A_eq m c 3).trans (V_main_arg3 m c))),
    ((hr main_arg4 (Pipeline.mem_restRefs_of main_arg4 (by decide) (by decide))).trans (W_main_arg4 m (dats m) c)),
    ((h c).1 5).trans (((dats m 0 c).arrAt_in 5 rfl _).trans ((A_eq m c 5).trans (V_main_arg5 m c))),
    ((hr main_arg6 (Pipeline.mem_restRefs_of main_arg6 (by decide) (by decide))).trans (W_main_arg6 m (dats m) c))⟩
  · exact (hr main_v10 (Pipeline.mem_restRefs_of main_v10 (by decide) (by decide))).trans ((W_v10 m c).trans (outs_eq m c))
  · exact (hr main_v11 (Pipeline.mem_restRefs_of main_v11 (by decide) (by decide))).trans ((W_v11 m c).trans (new_codes_eq _ _ fun b n d => blk_kn_apply m c b n d))
  · exact (hr main_v12 (Pipeline.mem_restRefs_of main_v12 (by decide) (by decide))).trans ((W_v12 m c).trans (new_scales_eq _ _ fun b n d => blk_kn_apply m c b n d))
  · exact (hr main_v13 (Pipeline.mem_restRefs_of main_v13 (by decide) (by decide))).trans ((W_v13 m c).trans (new_codes_eq _ _ fun b n d => blk_vn_apply m c b n d))
  · exact (hr main_v14 (Pipeline.mem_restRefs_of main_v14 (by decide) (by decide))).trans ((W_v14 m c).trans (new_scales_eq _ _ fun b n d => blk_vn_apply m c b n d))

end Cert.KernelIdeal.Own

namespace Cert.Proof

open Idealize.ShloMosaic Idealize.ShloMosaic.TcCoe Idealize.SL.Sem

/-- On equal arguments the idealized kernel and the reference end with equal results, all five of them. -/
theorem algebraic : Cert.algebraic_KernelIdeal_ReferenceIdeal (hKernelIdeal := Cert.KernelIdeal.Gen.facts) (hReferenceIdeal := Cert.ReferenceIdeal.Gen.facts) := by
  intro m g m' g' _ hm
  refine ⟨_, _, _, _, _, Cert.KernelIdeal.Own.run_value m g, (θ_run _ _ _).mono (fun r h c => ?_) (Cert.ReferenceIdeal.Value.run' m' g')⟩
  obtain ⟨a0, a1, a2, a3, a4, a5, a6⟩ := hm c
  obtain ⟨h0, h1, h2, h3, h4, hr⟩ := h c
  refine ⟨h0.trans ?_, h1.trans ?_, h2.trans ?_, h3.trans ?_, h4.trans ?_, hr⟩
  · exact (congrArg₂ (fun p v => Cert.ReferenceIdeal.Value.rY p v)
      (congrArg Cert.ReferenceIdeal.Value.rP (congr (congrArg Cert.ReferenceIdeal.Value.rS a0) (congr (congr (congrArg Cert.ReferenceIdeal.Value.rDQ a3) a4) a1)))
      (congr (congr (congrArg Cert.ReferenceIdeal.Value.rDQ a5) a6) a2))
  · exact congrArg Cert.ReferenceIdeal.Value.rCD a1
  · exact congrArg Cert.ReferenceIdeal.Value.rSC a1
  · exact congrArg Cert.ReferenceIdeal.Value.rCD a2
  · exact congrArg Cert.ReferenceIdeal.Value.rSC a2

end Cert.Proof
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_p, frame_pi, frame_ri, preserves, algebraic⟩

end Cert.Proof

end
